-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Pre_finite_ReferenceIdeal.lean ====
abbrev S2x128x512 : Shape := ⟨3, ![2, 128, 512]⟩
abbrev S512x2048 : Shape := ⟨2, ![512, 2048]⟩
abbrev S512x512 : Shape := ⟨2, ![512, 512]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x2048 .f32) (main_arg2 : FVec F S512x512 .f32) (main_arg3 : FVec F S512x512 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S512x128 : Shape := ⟨2, ![512, 128]⟩
abbrev S5 : Shape := ⟨1, ![5]⟩
abbrev S2 : Shape := ⟨1, ![2]⟩
abbrev S6 : Shape := ⟨1, ![6]⟩
abbrev S_ : Shape := ⟨0, ![]⟩
abbrev S1 : Shape := ⟨1, ![1]⟩
abbrev S512x256 : Shape := ⟨2, ![512, 256]⟩
abbrev S1x128x512 : Shape := ⟨3, ![1, 128, 512]⟩
abbrev S128x512 : Shape := ⟨2, ![128, 512]⟩
abbrev S128x256 : Shape := ⟨2, ![128, 256]⟩
abbrev S128x128 : Shape := ⟨2, ![128, 128]⟩
abbrev S128x64 : Shape := ⟨2, ![128, 64]⟩
abbrev S512x64 : Shape := ⟨2, ![512, 64]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x128, .f32⟩
  | .local _ .vmem, ⟨4, _⟩ => ⟨S512x128, .f32⟩
  | .local _ .vmem, ⟨5, _⟩ => ⟨S2x128x512, .f32⟩
  | .local _ .vmem, ⟨6, _⟩ => ⟨S2x128x512, .bf16⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v13 : BitVec 32 := Scalar.muli v2 c2_i32
  let c64_i32 : BitVec 32 := 64#32
  let v14 : BitVec 32 := Scalar.muli v13 c64_i32
  ![0, v14.toNat]
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_52 : BitVec 32 := 1#32
  let v107 : BitVec 32 := Scalar.muli v7 c1_i32_52
  let v108 : BitVec 32 := Scalar.addi c0_i32_53 v107
  v108.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_62 : BitVec 32 := 1#32
  let v117 : BitVec 32 := Scalar.muli v5 c1_i32_62
  let v118 : BitVec 32 := Scalar.addi c0_i32_63 v117
  v118.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_87 : BitVec 32 := 1#32
  let v184 : BitVec 32 := Scalar.muli v7 c1_i32_87
  let v185 : BitVec 32 := Scalar.addi c0_i32_88 v184
  v185.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_97 : BitVec 32 := 1#32
  let v194 : BitVec 32 := Scalar.muli v5 c1_i32_97
  let v195 : BitVec 32 := Scalar.addi c0_i32_98 v194
  v195.toNat
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_117 : BitVec 32 := 1#32
  let v212 : BitVec 32 := Scalar.muli v7 c1_i32_117
  let v213 : BitVec 32 := Scalar.addi c0_i32_118 v212
  v213.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_152 : BitVec 32 := 1#32
  let v246 : BitVec 32 := Scalar.muli v5 c1_i32_152
  let v247 : BitVec 32 := Scalar.addi c0_i32_153 v246
  v247.toNat
-- ==== ReferenceIdeal.lean ====
abbrev S2x128x512 : Shape := ⟨3, ![2, 128, 512]⟩
abbrev S512x2048 : Shape := ⟨2, ![512, 2048]⟩
abbrev S512x512 : Shape := ⟨2, ![512, 512]⟩
abbrev S2048x512 : Shape := ⟨2, ![2048, 512]⟩
abbrev S2x128x2048 : Shape := ⟨3, ![2, 128, 2048]⟩
abbrev S2x128x32x64 : Shape := ⟨4, ![2, 128, 32, 64]⟩
abbrev S2x128x8x64 : Shape := ⟨4, ![2, 128, 8, 64]⟩
abbrev S2x128x8x4x64 : Shape := ⟨5, ![2, 128, 8, 4, 64]⟩
abbrev S_ : Shape := ⟨0, ![]⟩
abbrev S2x32x128x1 : Shape := ⟨4, ![2, 32, 128, 1]⟩
abbrev S2x32x128x128 : Shape := ⟨4, ![2, 32, 128, 128]⟩
abbrev S2x32x128 : Shape := ⟨3, ![2, 32, 128]⟩
abbrev S2x128x32x1 : Shape := ⟨4, ![2, 128, 32, 1]⟩
abbrev S2x32x64x128 : Shape := ⟨4, ![2, 32, 64, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S512x512, .f32⟩
  | .hbm, ⟨3, _⟩ => ⟨S512x512, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S2x128x512, .f32⟩
  | .hbm, ⟨8, _⟩ => ⟨S2x128x8x64, .f32⟩
  | .hbm, ⟨9, _⟩ => ⟨S2x128x512, .f32⟩
  | .hbm, ⟨10, _⟩ => ⟨S2x128x8x64, .f32⟩
  | .hbm, ⟨11, _⟩ => ⟨S2x128x8x4x64, .f32⟩
  | .hbm, ⟨12, _⟩ => ⟨S2x128x32x64, .f32⟩
  | .hbm, ⟨13, _⟩ => ⟨S2x128x8x4x64, .f32⟩
  | .hbm, ⟨14, _⟩ => ⟨S2x128x32x64, .f32⟩
  | .hbm, ⟨15, _⟩ => ⟨S_, .f32⟩
  | .hbm, ⟨16, _⟩ => ⟨S2x128x32x64, .f32⟩
  | .hbm, ⟨17, _⟩ => ⟨S_, .f32⟩
  | .hbm, ⟨18, _⟩ => ⟨S2x32x128x1, .f32⟩
  | .hbm, ⟨19, _⟩ => ⟨S_, .f32⟩
  | .hbm, ⟨20, _⟩ => ⟨S2x32x128x1, .f32⟩
  | .hbm, ⟨21, _⟩ => ⟨S2x32x128x128, .f32⟩
  | .hbm, ⟨22, _⟩ => ⟨S_, .f32⟩
  | .hbm, ⟨23, _⟩ => ⟨S2x32x128x128, .f32⟩
  | .hbm, ⟨24, _⟩ => ⟨S2x32x128x128, .f32⟩
  | .hbm, ⟨25, _⟩ => ⟨S_, .f32⟩
  | .hbm, ⟨26, _⟩ => ⟨S2x32x128, .f32⟩
  | .hbm, ⟨27, _⟩ => ⟨S2x32x128x1, .f32⟩
  | .hbm, ⟨28, _⟩ => ⟨S2x32x128x1, .f32⟩
  | .hbm, ⟨29, _⟩ => ⟨S2x32x128x1, .f32⟩
  | .hbm, ⟨30, _⟩ => ⟨S2x32x128x1, .f32⟩
  | .hbm, ⟨31, _⟩ => ⟨S2x32x128x128, .f32⟩
  | .hbm, ⟨32, _⟩ => ⟨S2x32x128x128, .f32⟩
  | .hbm, ⟨33, _⟩ => ⟨S2x32x128x128, .f32⟩
  | .hbm, ⟨34, _⟩ => ⟨S2x32x128x1, .f32⟩
  | .hbm, ⟨35, _⟩ => ⟨S_, .f32⟩
  | .hbm, ⟨36, _⟩ => ⟨S2x32x128, .f32⟩
  | .hbm, ⟨37, _⟩ => ⟨S2x32x128x1, .f32⟩
  | .hbm, ⟨38, _⟩ => ⟨S2x32x128x1, .f32⟩
  | .hbm, ⟨39, _⟩ => ⟨S2x128x32x1, .f32⟩
  | .hbm, ⟨40, _⟩ => ⟨S2x128x32x64, .f32⟩
  | .hbm, ⟨41, _⟩ => ⟨S2x128x32x64, .f32⟩
  | .hbm, ⟨42, _⟩ => ⟨S2x32x64x128, .f32⟩
  | .hbm, ⟨43, _⟩ => ⟨S2x128x32x64, .f32⟩
  | .hbm, ⟨44, _⟩ => ⟨S2x128x32x64, .f32⟩
  | .hbm, ⟨45, _⟩ => ⟨S2x128x32x1, .f32⟩
  | .hbm, ⟨46, _⟩ => ⟨S2x128x32x64, .f32⟩
  | .hbm, ⟨47, _⟩ => ⟨S2x128x32x64, .f32⟩
  | .hbm, ⟨48, _⟩ => ⟨S2x128x2048, .f32⟩
  | .hbm, ⟨49, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Protocol.lean ====
/-
The exchange protocol of the kernel.

Four devices stand in a ring.  Each device computes a partial product for each of the two batch rows, sends each row's
partial to both ring neighbours, and one hop further the left (row 0) or right (row 1) neighbour's partial is
forwarded, so that every device ends with all four partials of both rows.

Every semaphore the kernel uses is a cell of a one-round schedule: the runtime's barrier semaphore, paid one unit by
each neighbour, and the nineteen DMA semaphores, each paid once by one transfer.  A neighbour's barrier payment hands
over the three landing slabs this device will write on it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

set_option backward.proofsInPublic true in
/-- The device to the right. -/
def rgt (c : Dev nD) : Dev nD := ⟨(c.val + 1) % 4, Nat.mod_lt _ (by decide)⟩
set_option backward.proofsInPublic true in
/-- The device to the left. -/
def lft (c : Dev nD) : Dev nD := ⟨(c.val + 3) % 4, Nat.mod_lt _ (by decide)⟩

theorem lft_rgt (c : Dev nD) : lft (rgt c) = c := by revert c; decide
theorem rgt_lft (c : Dev nD) : rgt (lft c) = c := by revert c; decide
theorem rgt_rgt (c : Dev nD) : rgt (rgt c) = lft (lft c) := by revert c; decide

/-- One step to the right, as a permutation of the devices. -/
def ring : Dev nD ≃ Dev nD := ⟨rgt, lft, lft_rgt, rgt_lft⟩

theorem dev1_eq (c : Dev nD) : (⟨k0_dev1 c, k0_dev1_lt c⟩ : Dev nD) = lft c := Fin.ext (k0_dev1_eq c)
theorem dev2_eq (c : Dev nD) : (⟨k0_dev2 c, k0_dev2_lt c⟩ : Dev nD) = rgt c := Fin.ext (k0_dev2_eq c)
theorem dev3_eq (c : Dev nD) : (⟨k0_dev3 c, k0_dev3_lt c⟩ : Dev nD) = rgt c := Fin.ext (k0_dev3_eq c)
theorem dev4_eq (c : Dev nD) : (⟨k0_dev4 c, k0_dev4_lt c⟩ : Dev nD) = lft c := Fin.ext (k0_dev4_eq c)
theorem dev5_eq (c : Dev nD) : (⟨k0_dev5 c, k0_dev5_lt c⟩ : Dev nD) = rgt c := Fin.ext (k0_dev5_eq c)
theorem dev6_eq (c : Dev nD) : (⟨k0_dev6 c, k0_dev6_lt c⟩ : Dev nD) = lft c := Fin.ext (k0_dev6_eq c)
theorem dev7_eq (c : Dev nD) : (⟨k0_dev7 c, k0_dev7_lt c⟩ : Dev nD) = rgt c := Fin.ext (k0_dev7_eq c)
theorem dev8_eq (c : Dev nD) : (⟨k0_dev8 c, k0_dev8_lt c⟩ : Dev nD) = lft c := Fin.ext (k0_dev8_eq c)

/-! ## The memrefs -/

/-- Batch row 0 of a `[2,128,512]` memref. -/
abbrev sl0 {sp : Space} {e : EltTy} (a : Memref sig .tc sp S2x128x512 e) : Memref sig .tc sp S1x128x512 e :=
  a.slice (Rect.unit (s := S2x128x512) ![0, 0, 0] S1x128x512.size inb_S2x128x512_S1x128x512_0_0_0) (fun _ => rfl)
/-- Batch row 1 of a `[2,128,512]` memref. -/
abbrev sl1 {sp : Space} {e : EltTy} (a : Memref sig .tc sp S2x128x512 e) : Memref sig .tc sp S1x128x512 e :=
  a.slice (Rect.unit (s := S2x128x512) ![1, 0, 0] S1x128x512.size inb_S2x128x512_S1x128x512_1_0_0) (fun _ => rfl)
/-- A row as a matrix. -/
abbrev sq {sp : Space} {e : EltTy} (a : Memref sig .tc sp S1x128x512 e) : Memref sig .tc sp S128x512 e :=
  a.squeeze S128x512 squeezes_S1x128x512_S128x512
/-- The columns of a `[512,512]` memref that belong to device `c`. -/
abbrev colM {sp : Space} {e : EltTy} (a : Memref sig .tc sp S512x512 e) (c : Dev nD) : Memref sig .tc sp S512x128 e :=
  a.slice (Rect.unit (s := S512x512) (k0_off1 c) S512x128.size (k0_off1_inb c)) (fun _ => rfl)

abbrev xH : Memref sig .tc .hbm S2x128x512 .f32 := Memref.whole main_arg0
abbrev wqH : Memref sig .tc .hbm S512x512 .f32 := Memref.whole main_arg1
abbrev wkH : Memref sig .tc .hbm S512x512 .f32 := Memref.whole main_arg2
abbrev wvH : Memref sig .tc .hbm S512x512 .f32 := Memref.whole main_arg3
abbrev woH : Memref sig .tc .hbm S512x512 .f32 := Memref.whole main_arg4
abbrev oH : Memref sig .tc .hbm S2x128x512 .f32 := Memref.whole main_v1
abbrev xM : Memref sig .tc .vmem S2x128x512 .f32 := Memref.whole cc0_scratch0
abbrev wqM : Memref sig .tc .vmem S512x512 .f32 := Memref.whole cc0_scratch1
abbrev woM : Memref sig .tc .vmem S512x512 .f32 := Memref.whole cc0_scratch2
abbrev wkM : Memref sig .tc .vmem S512x128 .f32 := Memref.whole cc0_scratch3
abbrev wvM : Memref sig .tc .vmem S512x128 .f32 := Memref.whole cc0_scratch4
abbrev oM : Memref sig .tc .vmem S2x128x512 .f32 := Memref.whole cc0_scratch5
abbrev mineM : Memref sig .tc .vmem S2x128x512 .bf16 := Memref.whole cc0_scratch6
abbrev lM : Memref sig .tc .vmem S2x128x512 .bf16 := Memref.whole cc0_scratch7
abbrev rM : Memref sig .tc .vmem S2x128x512 .bf16 := Memref.whole cc0_scratch8
abbrev dM : Memref sig .tc .vmem S2x128x512 .bf16 := Memref.whole cc0_scratch9

/-- The runtime's barrier semaphore. -/
abbrev barS : Sem sig := (SemArray.scalar (sig.barrier 0 rfl) : Sems sig S_).sem

abbrev barCell (c : Dev nD) : GSem nD τ sig := ((c : Thread nD τ), .reg barS)
/-- Device `c`'s DMA semaphore number `q`: 0–4 the five fetches, 5–6 the two write-backs, 7–12 the six sends,
    13–18 the six receives. -/
abbrev dCell (c : Dev nD) (q : Fin 19) : GSem nD τ sig := ((c : Thread nD τ), .dma q)

/-! ## Contents -/

/-- Device `c`'s operands, as its kernel fetches them. -/
def xV (c : Dev nD) : S2x128x512.Idx → Elt F .f32 := m ((c : Thread nD τ).loc main_arg0)
def wqV (c : Dev nD) : S512x512.Idx → Elt F .f32 := m ((c : Thread nD τ).loc main_arg1)
def woV (c : Dev nD) : S512x512.Idx → Elt F .f32 := m ((c : Thread nD τ).loc main_arg4)
def wkV (c : Dev nD) : S512x128.Idx → Elt F .f32 := (colM wkH c).view.read (Elt F) (m ((c : Thread nD τ).loc main_arg2))
def wvV (c : Dev nD) : S512x128.Idx → Elt F .f32 := (colM wvH c).view.read (Elt F) (m ((c : Thread nD τ).loc main_arg3))
/-- The two batch rows of device `c`'s `x`. -/
def x0V (c : Dev nD) : S1x128x512.Idx → Elt F .f32 := (sl0 xM).view.read (Elt F) (xV m c)
def x1V (c : Dev nD) : S1x128x512.Idx → Elt F .f32 := (sl1 xM).view.read (Elt F) (xV m c)

/-- Row 0's partial product on device `c`, before rounding. -/
def acc0 (c : Dev nD) : FVec F S128x512 .f32 :=
  k0_pay10 (k0_pay3 (woV m c)) (k0_pay5 (wqV m c) (x0V m c)) (k0_pay7 (wkV m c) (wvV m c) (x0V m c))
    (k0_pay8 (wkV m c) (wvV m c) (x0V m c)) (k0_pay9 (wqV m c) (x0V m c))
/-- The message carrying it. -/
def msg0 (c : Dev nD) : S1x128x512.Idx → Elt F .bf16 :=
  k0_pay11 (k0_pay3 (woV m c)) (k0_pay5 (wqV m c) (x0V m c)) (k0_pay7 (wkV m c) (wvV m c) (x0V m c))
    (k0_pay8 (wkV m c) (wvV m c) (x0V m c)) (k0_pay9 (wqV m c) (x0V m c))
/-- Row 1's partial product on device `c`, before rounding. -/
def acc1 (c : Dev nD) : FVec F S128x512 .f32 :=
  k0_pay19 (k0_pay3 (woV m c)) (k0_pay13 (k0_pay2 (wqV m c)) (x1V m c)) (k0_pay15 (k0_pay1 (wkV m c) (wvV m c)) (x1V m c))
    (k0_pay16 (k0_pay1 (wkV m c) (wvV m c)) (x1V m c)) (k0_pay17 (k0_pay2 (wqV m c)) (x1V m c)) (k0_pay18 (k0_pay2 (wqV m c)) (x1V m c))
/-- The message carrying it. -/
def msg1 (c : Dev nD) : S1x128x512.Idx → Elt F .bf16 :=
  k0_pay20 (k0_pay3 (woV m c)) (k0_pay13 (k0_pay2 (wqV m c)) (x1V m c)) (k0_pay15 (k0_pay1 (wkV m c) (wvV m c)) (x1V m c))
    (k0_pay16 (k0_pay1 (wkV m c) (wvV m c)) (x1V m c)) (k0_pay17 (k0_pay2 (wqV m c)) (x1V m c)) (k0_pay18 (k0_pay2 (wqV m c)) (x1V m c))
/-- Device `c`'s two result rows. -/
def res0 (c : Dev nD) : S1x128x512.Idx → Elt F .f32 :=
  k0_pay24 (k0_pay21 (acc0 m c) (msg0 m (lft c)) (msg0 m (rgt c))) (msg0 m (lft (lft c)))
def res1 (c : Dev nD) : S1x128x512.Idx → Elt F .f32 :=
  k0_pay25 (k0_pay23 (k0_pay22 (acc1 m c) (msg1 m (lft c))) (msg1 m (rgt c))) (msg1 m (rgt (rgt c)))

/-! ## Ownership -/

/-- A memref of device `c` at given contents. -/
abbrev own {sp : Space} {s : Shape} {e : EltTy} (c : Dev nD) (a : Memref sig .tc sp s e) (q : PosShare TreeShare) (X : s.Idx → Elt F e) : sProp 𝕄 :=
  owns (c : Thread nD τ) a q X
/-- A memref of device `c` at some contents. -/
def room {sp : Space} {s : Shape} {e : EltTy} (c : Dev nD) (a : Memref sig .tc sp s e) : sProp 𝕄 :=
  iprop(∃ f, a.view.loc (c : Thread nD τ) ↦[a.view.set]{fullShare} f)

instance room_storable {sp : Space} {s : Shape} {e : EltTy} (c : Dev nD) (a : Memref sig .tc sp s e) :
    BI.Storable (upEmb : UEmb _ 𝕄) (room (F := F) c a) := by unfold room; infer_instance

/-! ## The schedule -/

/-- The credit of DMA semaphore `q`'s transfer. -/
def amt (q : Fin 19) : ℕ :=
  match q with
  | 0 => (xM.view).dmaCredit
  | 1 => (wqM.view).dmaCredit
  | 2 => (woM.view).dmaCredit
  | 3 => (wkM.view).dmaCredit
  | 4 => (wvM.view).dmaCredit
  | 5 => ((sq (sl0 oH)).view).dmaCredit
  | 6 => ((sq (sl1 oH)).view).dmaCredit
  | ⟨_ + 7, _⟩ => ((sq (sl0 lM)).view).dmaCredit

theorem amt_pos (q : Fin 19) : 0 < amt q := by
  unfold amt; split <;> exact View.dmaCredit_pos _ (by decide)

/-- What the left neighbour's signal hands device `c`: the three slabs of the LEFT neighbour that `c` will write. -/
def barPayL (c : Dev nD) : sProp 𝕄 := iprop(room (F := F) (lft c) (sl0 rM) ∗ room (lft c) (sl1 rM) ∗ room (lft c) (sl1 dM))
/-- What the right neighbour's signal hands device `c`. -/
def barPayR (c : Dev nD) : sProp 𝕄 := iprop(room (F := F) (rgt c) (sl0 lM) ∗ room (rgt c) (sl1 lM) ∗ room (rgt c) (sl0 dM))

/-- What the transfer that pays DMA semaphore `q` of device `c` delivers. -/
def pay (q : Fin 19) (c : Dev nD) : sProp 𝕄 :=
  match q with
  | 0 => iprop(own c xM fullShare (xV m c) ∗ own c xH fullShare (xV m c))
  | 1 => iprop(own c wqM fullShare (wqV m c) ∗ own c wqH fullShare (wqV m c))
  | 2 => iprop(own c woM fullShare (woV m c) ∗ own c woH fullShare (woV m c))
  | 3 => iprop(own c wkM fullShare (wkV m c) ∗ own c (colM wkH c) fullShare (wkV m c))
  | 4 => iprop(own c wvM fullShare (wvV m c) ∗ own c (colM wvH c) fullShare (wvV m c))
  | 5 => iprop(own c (sl0 oH) fullShare (res0 m c) ∗ own c (sl0 oM) fullShare (res0 m c))
  | 6 => iprop(own c (sl1 oH) fullShare (res1 m c) ∗ own c (sl1 oM) fullShare (res1 m c))
  | 7 => own c (sl0 mineM) fullShare.left (msg0 m c)
  | 8 => own c (sl0 mineM) fullShare.right (msg0 m c)
  | 9 => own c (sl1 mineM) fullShare.left (msg1 m c)
  | 10 => own c (sl1 mineM) fullShare.right (msg1 m c)
  | 11 => own c (sl0 lM) fullShare.left (msg0 m (lft c))
  | 12 => own c (sl1 rM) fullShare.left (msg1 m (rgt c))
  | 13 => own c (sl0 lM) fullShare (msg0 m (lft c))
  | 14 => own c (sl0 rM) fullShare (msg0 m (rgt c))
  | 15 => own c (sl1 lM) fullShare (msg1 m (lft c))
  | 16 => own c (sl1 rM) fullShare (msg1 m (rgt c))
  | 17 => own c (sl0 dM) fullShare (msg0 m (lft (lft c)))
  | ⟨_ + 18, _⟩ => own c (sl1 dM) fullShare (msg1 m (rgt (rgt c)))

instance pay_storable (q : Fin 19) (c : Dev nD) : BI.Storable (upEmb : UEmb _ 𝕄) (pay m q c) := by
  unfold pay; split <;> infer_instance

/-- One round: two duties of one unit on a barrier cell — `false` from the left neighbour, `true` from the right —
    and the duty `false` of its transfer's credit on a DMA cell. -/
def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amt q
  payload g _ d := match g.2 with
    | .reg _ => if d then barPayR g.1.1 else barPayL g.1.1
    | .dma q => pay m q g.1.1
  amount_pos g _ _ _ := by
    rcases g with ⟨t, s | q⟩
    · exact Nat.one_pos
    · exact amt_pos q

instance Rd_payload_storable (g : GSem nD τ sig) (r : ℕ) (d : Bool) :
    BI.Storable (upEmb : UEmb _ 𝕄) ((Rd (F := F) m).payload g r d) := by
  rcases g with ⟨t, s | q⟩
  · show BI.Storable upEmb (if d then barPayR t.1 else barPayL t.1)
    unfold barPayR barPayL
    split <;> infer_instance
  · exact pay_storable m q t.1

section Sched
variable (c : Dev nD) (q : Fin 19)

omit [FloatOps F] in
theorem mem_tc : ((c : Thread nD τ)).2 = .tc := rfl

theorem duties_bar : (Rd (F := F) m).duties (barCell c) 0 = Finset.univ := by dsimp only [Rd]; exact if_pos ⟨rfl, rfl⟩
theorem duties_dma : (Rd (F := F) m).duties (dCell c q) 0 = {false} := by dsimp only [Rd]; exact if_pos ⟨rfl, rfl⟩
theorem duties_later (g : GSem nD τ sig) : ∀ r, 1 ≤ r → (Rd (F := F) m).duties g r = ∅ :=
  fun r hr => if_neg fun h => by omega
theorem amount_bar (d : Bool) : (Rd (F := F) m).amount (barCell c) 0 d = 1 := rfl
theorem amount_dma (d : Bool) : (Rd (F := F) m).amount (dCell c q) 0 d = amt q := rfl
theorem payload_dma (d : Bool) : (Rd (F := F) m).payload (dCell c q) 0 d = pay m q c := rfl
theorem payload_bar_true : (Rd (F := F) m).payload (barCell c) 0 true = barPayR c := rfl
theorem payload_bar_false : (Rd (F := F) m).payload (barCell c) 0 false = barPayL c := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd (F := F) m).expect (dCell c q) 0 = amt q := by
  unfold Schedule.expect Schedule.amountOf; rw [duties_dma, Finset.sum_singleton, amount_dma]

theorem rest_bar : bigSep ((Rd (F := F) m).duties (barCell c) 0 \ ∅) (fun d => (Rd (F := F) m).payload (barCell c) 0 d) = iprop(barPayL c ∗ barPayR c) := by
  rw [Finset.sdiff_empty, duties_bar, bigSep_univ_eq_bigSepL [false, true] (by decide) (by decide), bigSepL_cons_cons, bigSepL_singleton,
    payload_bar_false, payload_bar_true]
  rfl
theorem rest_dma : bigSep ((Rd (F := F) m).duties (dCell c q) 0 \ ∅) (fun d => (Rd (F := F) m).payload (dCell c q) 0 d) = pay m q c := by
  rw [Finset.sdiff_empty, duties_dma, bigSep_singleton, payload_dma]

end Sched

/-! ## What each device owes; the levels -/

/-- What device `c` still owes, named by how many of its six sends remain; the next to go is the last summand. -/
def Ow1 (c : Dev nD) : CellTallies nD τ sig Unit := 0 + tallyAt (dCell (lft c) 18) () (amt 18)
def Ow2 (c : Dev nD) : CellTallies nD τ sig Unit := Ow1 c + tallyAt (dCell (rgt c) 17) () (amt 17)
def Ow3 (c : Dev nD) : CellTallies nD τ sig Unit := Ow2 c + tallyAt (dCell (lft c) 16) () (amt 16)
def Ow4 (c : Dev nD) : CellTallies nD τ sig Unit := Ow3 c + tallyAt (dCell (rgt c) 15) () (amt 15)
def Ow5 (c : Dev nD) : CellTallies nD τ sig Unit := Ow4 c + tallyAt (dCell (lft c) 14) () (amt 14)
def Ow6 (c : Dev nD) : CellTallies nD τ sig Unit := Ow5 c + tallyAt (dCell (rgt c) 13) () (amt 13)
/-- With the signal to the right, and both signals. -/
def Ow7 (c : Dev nD) : CellTallies nD τ sig Unit := Ow6 c + tallyAt (barCell (rgt c)) () 1
def O₀ (c : Dev nD) : CellTallies nD τ sig Unit := Ow7 c + tallyAt (barCell (lft c)) () 1

def L (g : GSem nD τ sig) : Finset Unit := if g.1.2 = .tc then {()} else ∅
/-- Fetches, write-backs and sends at 0, barriers at 1, first-hop receives at 2, second-hop receives at 3. -/
def lvl (s : SemLoc sig) : ℕ :=
  match s with
  | .reg _ => 1
  | .dma q => if q.val < 13 then 0 else if q.val < 17 then 2 else 3
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

/-- Everything owed lies on a device's cell of level above `k`. -/
def Above (k : ℕ) (O : CellTallies nD τ sig Unit) : Prop := ∀ g u, 0 < O g u → g.1.2 = .tc ∧ k < lv g u

theorem above_zero (k : ℕ) : Above k 0 := fun g u h => absurd h (Nat.lt_irrefl 0)
theorem above_add {k : ℕ} {O : CellTallies nD τ sig Unit} (h : Above k O) (c : Dev nD) (sm : SemLoc sig) (n : ℕ) (hk : k < lvl sm) :
    Above k (O + tallyAt ((c : Thread nD τ), sm) () n) := fun g u hg => by
  rw [Pi.add_apply, Finsupp.add_apply, tallyAt_apply] at hg
  by_cases hh : g = ((c : Thread nD τ), sm) ∧ u = ()
  · rw [hh.1]; exact ⟨rfl, hk⟩
  · rw [if_neg hh, Nat.add_zero] at hg; exact h g u hg
theorem Above.mono {k k' : ℕ} {O : CellTallies nD τ sig Unit} (h : Above k O) (hk : k' ≤ k) : Above k' O :=
  fun g u hg => ⟨(h g u hg).1, lt_of_le_of_lt hk (h g u hg).2⟩

theorem above_Ow1 (c : Dev nD) : Above 2 (Ow1 c) := above_add (above_zero 2) _ _ _ (by decide)
theorem above_Ow2 (c : Dev nD) : Above 2 (Ow2 c) := above_add (above_Ow1 c) _ _ _ (by decide)
theorem above_Ow3 (c : Dev nD) : Above 1 (Ow3 c) := above_add ((above_Ow2 c).mono (by decide)) _ _ _ (by decide)
theorem above_Ow4 (c : Dev nD) : Above 1 (Ow4 c) := above_add (above_Ow3 c) _ _ _ (by decide)
theorem above_Ow5 (c : Dev nD) : Above 1 (Ow5 c) := above_add (above_Ow4 c) _ _ _ (by decide)
theorem above_Ow6 (c : Dev nD) : Above 1 (Ow6 c) := above_add (above_Ow5 c) _ _ _ (by decide)
theorem above_Ow7 (c : Dev nD) : Above 0 (Ow7 c) := above_add ((above_Ow6 c).mono (by decide)) _ _ _ (by decide)
theorem above_O₀ (c : Dev nD) : Above 0 (O₀ c) := above_add (above_Ow7 c) _ _ _ (by decide)

omit [FloatOps F] in
/-- A device may wait on a cell whose level is below everything it owes. -/
theorem mayWait (c : Dev nD) (sm : SemLoc sig) (O : CellTallies nD τ sig Unit) {k : ℕ} (hO : Above k O) (hk : lvl sm ≤ k) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hk)
    (fun g u hg => (hO g u hg).2)

end Cert.KernelIdeal.Hand
-- ==== Proof.Steps.lean ====
/-
The kernel's effects as steps over the exchange protocol: a fetch or write-back, a send, a wait on a DMA semaphore, the
two barrier signals and the barrier wait, and the loads and stores, each taking and giving ownership of the memrefs it
touches.
-/
module

public import proofs.«01_k».proof.Proof.Protocol

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The persistent records -/

/-- A device's cells: its nineteen DMA semaphores, then its barrier semaphore. -/
def csem (k : Fin 20) : SemLoc sig := if h : k.val < 19 then .dma ⟨k.val, h⟩ else .reg barS
abbrev kcell (ck : Dev nD × Fin 20) : GSem nD τ sig := ((ck.1 : Thread nD τ), csem ck.2)

theorem csem_dma (q : Fin 19) : csem q.castSucc = .dma q := dif_pos q.isLt
theorem csem_bar : csem 19 = .reg barS := dif_neg (by decide)

/-- Every cell's invariant, that every cell is at round 0 at least, and the levels. -/
def recs (K : Dev nD × Fin 20 → ℕ) : sProp 𝕄 :=
  iprop((bigSep Finset.univ fun ck : Dev nD × Fin 20 => cellInv ER (Rd m) (K ck) (kcell ck))
    ∗ (bigSep Finset.univ fun ck : Dev nD × Fin 20 => reached ER (kcell ck) 0) ∗ levAts L lv)

instance recs_persistent (K : Dev nD × Fin 20 → ℕ) : BI.Persistent (recs m K) := by unfold recs; infer_instance

variable (K : Dev nD × Fin 20 → ℕ)

theorem inv_at (ck : Dev nD × Fin 20) :
    (bigSep Finset.univ fun ck : Dev nD × Fin 20 => (cellInv ER (Rd (F := F) m) (K ck) (kcell ck) : sProp 𝕄)) ⊢ cellInv ER (Rd m) (K ck) (kcell ck) :=
  bigSep_elim (Finset.mem_univ ck)
theorem reached_at (ck : Dev nD × Fin 20) :
    (bigSep Finset.univ fun ck : Dev nD × Fin 20 => (reached ER (kcell ck) 0 : sProp 𝕄)) ⊢ reached ER (kcell ck) 0 :=
  bigSep_elim (Finset.mem_univ ck)

theorem recs_inv (c : Dev nD) (q : Fin 19) : recs m K ⊢ cellInv ER (Rd m) (K (c, q.castSucc)) (dCell c q) := by
  unfold recs
  iintro ⟨H, -, -⟩
  ihave H' := (inv_at m K (c, q.castSucc)) $$ H
  rw [show kcell (c, q.castSucc) = dCell c q from by unfold kcell; rw [csem_dma]]
  iexact H'
theorem recs_invB (c : Dev nD) : recs m K ⊢ cellInv ER (Rd m) (K (c, 19)) (barCell c) := by
  unfold recs
  iintro ⟨H, -, -⟩
  ihave H' := (inv_at m K (c, 19)) $$ H
  rw [show kcell (c, 19) = barCell c from by unfold kcell; rw [csem_bar]]
  iexact H'
theorem recs_reached (c : Dev nD) (q : Fin 19) : recs m K ⊢ reached ER (dCell c q) 0 := by
  unfold recs
  iintro ⟨-, H, -⟩
  ihave H' := (reached_at (F := F) (c, q.castSucc)) $$ H
  rw [show kcell (c, q.castSucc) = dCell c q from by unfold kcell; rw [csem_dma]]
  iexact H'
theorem recs_reachedB (c : Dev nD) : recs m K ⊢ reached ER (barCell c) 0 := by
  unfold recs
  iintro ⟨-, H, -⟩
  ihave H' := (reached_at (F := F) (c, 19)) $$ H
  rw [show kcell (c, 19) = barCell c from by unfold kcell; rw [csem_bar]]
  iexact H'
theorem recs_lev : recs m K ⊢ levAts L lv := by
  unfold recs
  iintro ⟨-, -, H⟩
  iexact H

/-! ## A device's holdings -/

/-- A DMA cell not yet used, which this device's own transfer will pay. -/
def idle (c : Dev nD) (q : Fin 19) : sProp 𝕄 := iprop(atPos ER (dCell c q) 0 ∅ 0 ∗ dutyTok ER (dCell c q) 0 false)
/-- A DMA cell whose transfer is under way. -/
def pend (c : Dev nD) (q : Fin 19) : sProp 𝕄 := iprop(atPos ER (dCell c q) 0 ∅ 0 ∗ cred (tallyAt (dCell c q) () (amt q)))
/-- A DMA cell that has been waited on. -/
def fin (c : Dev nD) (q : Fin 19) : sProp 𝕄 := semVal (dCell c q) 0
/-- The right to pay device `c`'s DMA cell `q`. -/
def tok (c : Dev nD) (q : Fin 19) : sProp 𝕄 := dutyTok ER (dCell c q) 0 false
/-- What device `c` owes. -/
def ow (c : Dev nD) (O : CellTallies nD τ sig Unit) : sProp 𝕄 := iprop(∃ W, owes (c : Thread nD τ) O W)

abbrev 𝒱₀ : Variants := Variants.none

/-- The weakest precondition of a part of device `c`'s body. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Rows as matrices -/

/-- A row's contents as a matrix's. -/
def sqX {e : EltTy} (X : S1x128x512.Idx → Elt F e) : S128x512.Idx → Elt F e :=
  fun j => X (Shape.reshapeEquiv squeezes_S1x128x512_S128x512.numel_eq j)

theorem sqX_inj {e : EltTy} {X Y : S1x128x512.Idx → Elt F e} (h : sqX X = sqX Y) : X = Y := by
  funext i
  have := congrFun h ((Shape.reshapeEquiv squeezes_S1x128x512_S128x512.numel_eq).symm i)
  unfold sqX at this
  rwa [Equiv.apply_symm_apply] at this

theorem sq_read {sp : Space} {e : EltTy} (a : Memref sig .tc sp S1x128x512 e) (f : a.view.ty.Contents (Elt F)) :
    (sq a).view.read (Elt F) f = sqX (a.view.read (Elt F) f) := rfl

theorem own_sq {sp : Space} {e : EltTy} (c : Dev nD) (a : Memref sig .tc sp S1x128x512 e) (q : PosShare TreeShare) (X : S1x128x512.Idx → Elt F e) :
    (own c a q X : sProp 𝕄) ⊢ own c (sq a) q (sqX X) := by
  unfold own owns
  iintro ⟨%f, %hf, H⟩
  iexists f
  isplitr
  · ipureintro; rw [sq_read, hf]
  rw [show (sq a).view.set = a.view.set from View.set_reshape _ _]
  iexact H
theorem sq_own {sp : Space} {e : EltTy} (c : Dev nD) (a : Memref sig .tc sp S1x128x512 e) (q : PosShare TreeShare) (X : S1x128x512.Idx → Elt F e) :
    own c (sq a) q (sqX X) ⊢ (own c a q X : sProp 𝕄) := by
  unfold own owns
  iintro ⟨%f, %hf, H⟩
  iexists f
  isplitr
  · ipureintro; rw [sq_read] at hf; exact sqX_inj hf
  rw [show (sq a).view.set = a.view.set from View.set_reshape _ _]
  iexact H
theorem room_sq {sp : Space} {e : EltTy} (c : Dev nD) (a : Memref sig .tc sp S1x128x512 e) :
    (room c a : sProp 𝕄) ⊢ room c (sq a) := by
  unfold room
  rw [show (sq a).view.set = a.view.set from View.set_reshape _ _]
theorem own_room {sp : Space} {s : Shape} {e : EltTy} (c : Dev nD) (a : Memref sig .tc sp s e) (X : s.Idx → Elt F e) :
    (own c a fullShare X : sProp 𝕄) ⊢ room c a := by
  unfold own owns room
  iintro ⟨%f, -, H⟩
  iexists f
  iexact H

theorem own_of {sp : Space} {s : Shape} {e : EltTy} (c : Dev nD) (a : Memref sig .tc sp s e) (q : PosShare TreeShare) {X : s.Idx → Elt F e}
    {f : a.view.ty.Contents (Elt F)} (hf : a.view.read (Elt F) f = X) :
    (a.view.loc (c : Thread nD τ) ↦[a.view.set]{q} f : sProp 𝕄) ⊢ own c a q X := by
  subst hf; exact owns_intro (c : Thread nD τ) a q f

/-- A part's return. -/
theorem wp_done {α : Type} {Q : α → sProp 𝕄} (c : Dev nD) (v : α) : Q v ⊢ WP c (.ret v) Q := by
  unfold WP; rw [wp_ret]; iintro H; imodintro; iexact H

/-- A part, then the rest. -/
theorem wp_seq {α β : Type} {Q : β → sProp 𝕄} (c : Dev nD) (p : Prog (TpuEff nD τ sig (Elt F) Λ₀ .tc) α) (k : α → Prog (TpuEff nD τ sig (Elt F) Λ₀ .tc) β) :
    WP c p (fun a => WP c (k a) Q) ⊢ WP c (p >>= k) Q := by
  unfold WP; rw [wp_bind]

/-! ## Transfers and waits -/

section Steps

/-- A fetch or write-back. -/
theorem step_copy {α : Type} {Q : α → sProp 𝕄} {k : PUnit → Prog (TpuEff nD τ sig (Elt F) Λ₀ .tc) α} (c : Dev nD) (q : Fin 19) {sp sp' : Space} {s : Shape} {e : EltTy} {src : Memref sig .tc sp s e} {dst : Memref sig .tc sp' s e}
    {sem : SemLoc sig} {hsrc : src.view.WordExact} {hdst : dst.view.WordExact} {hsem : DmaTarget.Typed (nD := nD) (τ := τ) (p := .tc) sp sem (.here dst)}
    (hs : sem = .dma q) (sh : PosShare TreeShare) (X : s.Idx → Elt F e) (hamt : dst.view.dmaCredit = amt q)
    (hpay : iprop(own c dst fullShare X ∗ own c src sh X) ⊢ pay m q c) :
    iprop(recs m K ∗ own c src sh X ∗ room c dst ∗ idle c q)
      ⊢ iprop((pend c q -∗ WP c (k ⟨⟩) Q) -∗ WP c (.op (.enqueueDma src (.here dst) sem hsrc hdst hsem) k) Q) := by
  subst hs
  unfold own owns room idle
  iintro ⟨#HR, ⟨%f, %hf, Hs⟩, ⟨%fd, Hd⟩, Hat, Htok⟩ Hk
  iapply (Rounds.wp_copy_pointsTo 𝒱₀ ER (Rd m) (c : Thread nD τ) none (r := 0) (d := false) (sem := .dma q) (κ := K (c, q.castSucc)) (q := sh) (fs := f) (fd := fd)
      (by rw [duties_dma]; exact Finset.mem_singleton_self _) () (amt q) hamt (amount_dma m c q false)
      ((BIClass.sep_mono (own_of c dst fullShare ((View.read_write_univ _ _).trans hf)) (own_of c src sh hf)).trans hpay)) $$ [Hs Hd Htok]
  · isplitr; · iapply (recs_inv m K c q); iexact HR
    isplitl [Hs]; · iexact Hs
    isplitl [Hd]; · iexact Hd
    isplitl [Htok]; · iexact Htok
    iapply (recs_reached m K c q); iexact HR
  iintro Hc
  iapply Hk
  unfold pend
  isplitl [Hat] <;> iassumption

/-- A send to device `c'`. -/
theorem step_send {α : Type} {Q : α → sProp 𝕄} {k : PUnit → Prog (TpuEff nD τ sig (Elt F) Λ₀ .tc) α} (c c' n : Dev nD) (hn : n = c') (q q' : Fin 19) {sp sp' : Space} {s : Shape} {e : EltTy} {src : Memref sig .tc sp s e} {dst : Memref sig .tc sp' s e}
    {s₁ s₂ : DmaSem sig} (hs₁ : s₁ = q) (hs₂ : s₂ = q') {hsc : dst.view.ref.isScScratch = false}
    {hsrc : src.view.WordExact} {hdst : dst.view.WordExact} {hsem : DmaTarget.Typed sp (.dma s₂) (.remote (Dev.tc n : Thread nD τ) dst (.dma s₁) hsc)}
    (sh : PosShare TreeShare) (X : s.Idx → Elt F e) (hamt : dst.view.dmaCredit = amt q) (hamt' : amt q' = amt q)
    (hpay : own c src sh X ⊢ pay m q c) (hpay' : own c' dst fullShare X ⊢ pay m q' c')
    (O : CellTallies nD τ sig Unit) :
    iprop(recs m K ∗ own c src sh X ∗ room c' dst ∗ idle c q ∗ tok c' q' ∗ ow c (O + tallyAt (dCell c' q') () (amt q')))
      ⊢ iprop((pend c q ∗ ow c O -∗ WP c (k ⟨⟩) Q)
          -∗ WP c (.op (.enqueueDma src (.remote (Dev.tc n : Thread nD τ) dst (.dma s₁) hsc) (.dma s₂) hsrc hdst hsem) k) Q) := by
  subst hn hs₁ hs₂
  unfold own owns room idle tok ow
  iintro ⟨#HR, ⟨%f, %hf, Hs⟩, ⟨%fd, Hd⟩, ⟨Hat, Htok⟩, Htok', ⟨%W, HO⟩⟩ Hk
  iapply (Rounds.wp_send_pointsTo 𝒱₀ ER (Rd m) (c : Thread nD τ) none (c' := (n : Thread nD τ)) (sS := .dma s₁) (sem := .dma s₂) (r₁ := 0) (r₂ := 0) (d₁ := false) (d₂ := false)
      (κ₁ := K (c, s₁.castSucc)) (κ₂ := K (n, s₂.castSucc)) (q := sh) (fs := f) (fd := fd)
      (by rw [duties_dma]; exact Finset.mem_singleton_self _) (by rw [duties_dma]; exact Finset.mem_singleton_self _)
      () () (amt s₁) hamt (amount_dma m c s₁ false) ((amount_dma m n s₂ false).trans hamt') O (O₀ := O + tallyAt (dCell n s₂) () (amt s₂)) (by rw [hamt']) (W := W)
      ((own_of c src sh hf).trans hpay) ((own_of n dst fullShare ((View.read_write_univ _ _).trans hf)).trans hpay')) $$ [Hs Hd Htok Htok' HO]
  · isplitr; · iapply (recs_inv m K c s₁); iexact HR
    isplitr; · iapply (recs_inv m K n s₂); iexact HR
    isplitl [Hs]; · iexact Hs
    isplitl [Hd]; · iexact Hd
    isplitl [HO]; · iexact HO
    isplitl [Htok]; · iexact Htok
    isplitr; · iapply (recs_reached m K c s₁); iexact HR
    isplitl [Htok']; · iexact Htok'
    iapply (recs_reached m K n s₂); iexact HR
  iintro ⟨Hc, HO⟩
  iapply Hk
  unfold pend
  isplitl [Hat Hc]
  · isplitl [Hat] <;> iassumption
  iexists W
  iexact HO

/-- A wait on a DMA semaphore: what its transfer delivers, the cell closed behind it. -/
theorem step_wait {α : Type} {Q : α → sProp 𝕄} {k : PUnit → Prog (TpuEff nD τ sig (Elt F) Λ₀ .tc) α} (c : Dev nD) (q : Fin 19) {sp sp' : Space} {s s' : Shape} {e e' : EltTy} {src : Memref sig .tc sp s e} {dst : Memref sig .tc sp' s' e'}
    {sem : DmaSem sig} (hs : sem = q) {hsrc : src.view.WordExact} {hdst : dst.view.WordExact}
    (hamt : dst.view.dmaCredit = amt q) (O : CellTallies nD τ sig Unit) (l : ℕ) (hO : Above l O) (hl : lvl (.dma q) ≤ l) {P : sProp 𝕄} (hP : pay m q c = P) :
    iprop(recs m K ∗ pend c q ∗ ow c O)
      ⊢ iprop((fin c q ∗ P ∗ ow c O -∗ WP c (k ⟨⟩) Q)
          -∗ WP c (.op (.waitDma2 sem src dst hsrc hdst) k) Q) := by
  subst hs hP
  unfold pend ow
  iintro ⟨#HR, ⟨Hat, Hc⟩, ⟨%W, HO⟩⟩ Hk
  iapply (Rounds.wp_wait_rest_token 𝒱₀ ER (Rd m) (c : Thread nD τ) none (κ := K (c, sem.castSucc))
      (wpE_waitDma2_eq 𝒱₀ (c : Thread nD τ) none Set.univ) (Set.mem_univ _) () (O := O) (W := W) (R := 0) (m := 0) (T := ∅)
      (by rw [Nat.zero_add, expect_dma]; exact hamt)) $$ [Hat Hc HO]
  · isplitr; · iapply (recs_inv m K c sem); iexact HR
    isplitl [Hc]; · rw [hamt]; iexact Hc
    isplitl [HO]; · iexact HO
    isplitr; · iapply (mayWait c (.dma sem) O hO hl); iapply (recs_lev m K); iexact HR
    iexact Hat
  iintro ⟨HO, Hat, -, Hpay⟩
  ihave Hp := (Entails.of_eq (rest_dma m c sem)) $$ Hpay
  imod (Rounds.cell_close ER (Rd m) (Set.mem_univ (K (c, sem.castSucc))) (fun h => h) (R := 0 + 1) (duties_later m (dCell c sem))) $$ [Hat] with Hz
  · isplitr; · iapply (recs_inv m K c sem); iexact HR
    iexact Hat
  iapply Hk
  unfold fin
  isplitl [Hz]; · iexact Hz
  isplitl [Hp]; · iexact Hp
  iexists _
  iexact HO

/-- A unit signal of a neighbour's barrier semaphore, handing over its payload. -/
theorem step_signal {α : Type} {Q : α → sProp 𝕄} {k : PUnit → Prog (TpuEff nD τ sig (Elt F) Λ₀ .tc) α} (c c' n : Dev nD) (hn : n = c') (d : Bool) (O : CellTallies nD τ sig Unit) {j : ℤ} (hj : j = ((1 : ℕ) : ℤ)) :
    iprop(recs m K ∗ ow c (O + tallyAt (barCell c') () 1) ∗ dutyTok ER (barCell c') 0 d ∗ (Rd m).payload (barCell c') 0 d)
      ⊢ iprop((ow c O -∗ WP c (k ⟨⟩) Q) -∗ WP c (.op (.semSignal (Dev.tc n : Thread nD τ) barS j) k) Q) := by
  subst hn hj
  unfold ow
  iintro ⟨#HR, ⟨%W, HO⟩, Ht, Hp⟩ Hk
  iapply (Rounds.wp_signal 𝒱₀ ER (Rd m) (c : Thread nD τ) none (dst := (n : Thread nD τ)) (κ := K (n, 19))
      (d := d) (by rw [duties_bar]; exact Finset.mem_univ _) (amount_bar m n d) () O rfl (W := W)) $$ [HO Ht Hp]
  · isplitr; · iapply (recs_invB m K n); iexact HR
    isplitl [HO]; · iexact HO
    isplitl [Ht]; · iexact Ht
    isplitl [Hp]; · iexact Hp
    iapply (recs_reachedB m K n); iexact HR
  iintro HO
  iapply Hk
  iexists W
  iexact HO

/-- The wait for both neighbours' signals. -/
theorem step_barwait {α : Type} {Q : α → sProp 𝕄} {k : PUnit → Prog (TpuEff nD τ sig (Elt F) Λ₀ .tc) α} (c : Dev nD) (O : CellTallies nD τ sig Unit) (hO : Above 1 O) {j : ℤ} (hj : j = ((2 : ℕ) : ℤ)) :
    iprop(recs m K ∗ atPos ER (barCell c) 0 ∅ 0 ∗ cred (tallyAt (barCell c) () 2) ∗ ow c O)
      ⊢ iprop((semVal (barCell c) 0 ∗ barPayL c ∗ barPayR c ∗ ow c O -∗ WP c (k ⟨⟩) Q)
          -∗ WP c (.op (.semWait barS j) k) Q) := by
  subst hj
  unfold ow
  iintro ⟨#HR, Hat, Hc, ⟨%W, HO⟩⟩ Hk
  iapply (Rounds.wp_wait_rest_token 𝒱₀ ER (Rd m) (c : Thread nD τ) none (κ := K (c, 19))
      (wpE_semWait_eq 𝒱₀ (c : Thread nD τ) none Set.univ) (Set.mem_univ _) () (O := O) (W := W) (R := 0) (m := 0) (T := ∅)
      (by rw [expect_bar])) $$ [Hat Hc HO]
  · isplitr; · iapply (recs_invB m K c); iexact HR
    isplitl [Hc]; · iexact Hc
    isplitl [HO]; · iexact HO
    isplitr; · iapply (mayWait c (.reg barS) O hO (by decide)); iapply (recs_lev m K); iexact HR
    iexact Hat
  iintro ⟨HO, Hat, -, Hpay⟩
  ihave Hp := (Entails.of_eq (rest_bar m c)) $$ Hpay
  icases Hp with ⟨HL, HRt⟩
  imod (Rounds.cell_close ER (Rd m) (Set.mem_univ (K (c, 19))) (fun h => h) (R := 0 + 1) (duties_later m (barCell c))) $$ [Hat] with Hz
  · isplitr; · iapply (recs_invB m K c); iexact HR
    iexact Hat
  iapply Hk
  isplitl [Hz]; · iexact Hz
  isplitl [HL]; · iexact HL
  isplitl [HRt]; · iexact HRt
  iexists _
  iexact HO

/-- A write-back of one row. -/
theorem step_copy_row {α : Type} {Q : α → sProp 𝕄} {k : PUnit → Prog (TpuEff nD τ sig (Elt F) Λ₀ .tc) α} (c : Dev nD) (q : Fin 19) {sp sp' : Space} {e : EltTy}
    {src : Memref sig .tc sp S1x128x512 e} {dst : Memref sig .tc sp' S1x128x512 e}
    {sem : SemLoc sig} {hsrc : (sq src).view.WordExact} {hdst : (sq dst).view.WordExact} {hsem : DmaTarget.Typed (nD := nD) (τ := τ) (p := .tc) sp sem (.here (sq dst))}
    (hs : sem = .dma q) (sh : PosShare TreeShare) (X : S1x128x512.Idx → Elt F e) (hamt : (sq dst).view.dmaCredit = amt q)
    (hpay : iprop(own c dst fullShare X ∗ own c src sh X) ⊢ pay m q c) :
    iprop(recs m K ∗ own c src sh X ∗ room c dst ∗ idle c q)
      ⊢ iprop((pend c q -∗ WP c (k ⟨⟩) Q) -∗ WP c (.op (.enqueueDma (sq src) (.here (sq dst)) sem hsrc hdst hsem) k) Q) := by
  iintro ⟨#HR, Hs, Hd, Hi⟩
  iapply (step_copy m K c q (src := sq src) (dst := sq dst) hs sh (sqX X) hamt ((BIClass.sep_mono (sq_own c dst fullShare X) (sq_own c src sh X)).trans hpay)) $$ [Hs Hd Hi]
  isplitr; · iexact HR
  isplitl [Hs]; · iapply (own_sq c src sh X); iexact Hs
  isplitl [Hd]; · iapply (room_sq c dst); iexact Hd
  iexact Hi

/-- A send of one row. -/
theorem step_send_row {α : Type} {Q : α → sProp 𝕄} {k : PUnit → Prog (TpuEff nD τ sig (Elt F) Λ₀ .tc) α} (c c' n : Dev nD) (hn : n = c') (q q' : Fin 19) {sp sp' : Space} {e : EltTy}
    {src : Memref sig .tc sp S1x128x512 e} {dst : Memref sig .tc sp' S1x128x512 e}
    {s₁ s₂ : DmaSem sig} (hs₁ : s₁ = q) (hs₂ : s₂ = q') {hsc : (sq dst).view.ref.isScScratch = false}
    {hsrc : (sq src).view.WordExact} {hdst : (sq dst).view.WordExact} {hsem : DmaTarget.Typed sp (.dma s₂) (.remote (Dev.tc n : Thread nD τ) (sq dst) (.dma s₁) hsc)}
    (sh : PosShare TreeShare) (X : S1x128x512.Idx → Elt F e) (hamt : (sq dst).view.dmaCredit = amt q) (hamt' : amt q' = amt q)
    (hpay : own c src sh X ⊢ pay m q c) (hpay' : own c' dst fullShare X ⊢ pay m q' c')
    (O : CellTallies nD τ sig Unit) :
    iprop(recs m K ∗ own c src sh X ∗ room c' dst ∗ idle c q ∗ tok c' q' ∗ ow c (O + tallyAt (dCell c' q') () (amt q')))
      ⊢ iprop((pend c q ∗ ow c O -∗ WP c (k ⟨⟩) Q)
          -∗ WP c (.op (.enqueueDma (sq src) (.remote (Dev.tc n : Thread nD τ) (sq dst) (.dma s₁) hsc) (.dma s₂) hsrc hdst hsem) k) Q) := by
  iintro ⟨#HR, Hs, Hd, Hi⟩
  iapply (step_send m K c c' n hn q q' (src := sq src) (dst := sq dst) hs₁ hs₂ sh (sqX X) hamt hamt' ((sq_own c src sh X).trans hpay)
    ((sq_own c' dst fullShare X).trans hpay') O) $$ [Hs Hd Hi]
  isplitr; · iexact HR
  isplitl [Hs]; · iapply (own_sq c src sh X); iexact Hs
  isplitl [Hd]; · iapply (room_sq c' dst); iexact Hd
  iexact Hi

end Steps

/-! ## Loads and stores -/

section Vector

/-- A load of an owned slice. -/
theorem step_load {α : Type} {Q : α → sProp 𝕄} (c : Dev nD) {cs : CoreSpace} {s : Shape} {e : EltTy} {a : Memref sig .tc cs s e} {r : Rect s} (hr : ∀ i, r.stride i = 1)
    {hl : a.view.LoadsAt r.toLoadRect} {k : (r.shape.Idx → Elt F e) → Prog (TpuEff nD τ sig (Elt F) Λ₀ .tc) α} (sh : PosShare TreeShare) (X : r.shape.Idx → Elt F e) :
    own c (a.slice r hr) sh X
      ⊢ iprop((own c (a.slice r hr) sh X -∗ WP c (k X) Q) -∗ WP c (.op (.load a r.toLoadRect hl) k) Q) := by
  unfold own owns
  iintro ⟨%f, %hf, H⟩ Hk
  iapply (wp_load_rect 𝒱₀ (c : Thread nD τ) none Set.univ (m := a) (r := r) (S := (a.slice r hr).view.set) (f := f) (q := sh) (Finset.Subset.refl _)) $$ H
  iintro H
  rw [show (a.access r).read (Elt F) f = X from hf]
  iapply Hk
  iexists f
  isplitr
  · ipureintro; exact hf
  · iexact H

/-- A load of a slice owned at unknown contents. -/
theorem step_load_room {α : Type} {Q : α → sProp 𝕄} (c : Dev nD) {cs : CoreSpace} {s : Shape} {e : EltTy} {a : Memref sig .tc cs s e} {r : Rect s} (hr : ∀ i, r.stride i = 1)
    {hl : a.view.LoadsAt r.toLoadRect} {k : (r.shape.Idx → Elt F e) → Prog (TpuEff nD τ sig (Elt F) Λ₀ .tc) α} :
    room c (a.slice r hr)
      ⊢ iprop((∀ X, room c (a.slice r hr) -∗ WP c (k X) Q) -∗ WP c (.op (.load a r.toLoadRect hl) k) Q) := by
  unfold room
  iintro ⟨%f, H⟩ Hk
  iapply (wp_load_rect 𝒱₀ (c : Thread nD τ) none Set.univ (m := a) (r := r) (S := (a.slice r hr).view.set) (f := f) (q := fullShare) (Finset.Subset.refl _)) $$ H
  iintro H
  iapply Hk
  iexists f
  iexact H

/-- A load of part of an owned memref. -/
theorem step_load_in {α : Type} {Q : α → sProp 𝕄} (c : Dev nD) {cs : CoreSpace} {s : Shape} {e : EltTy} {a : Memref sig .tc cs s e} {r : Rect s}
    {hl : a.view.LoadsAt r.toLoadRect} {k : (r.shape.Idx → Elt F e) → Prog (TpuEff nD τ sig (Elt F) Λ₀ .tc) α} (sh : PosShare TreeShare) (X : s.Idx → Elt F e)
    {Y : r.shape.Idx → Elt F e} (hY : (fun i => X (r.emb i)) = Y) :
    own c a sh X
      ⊢ iprop((own c a sh X -∗ WP c (k Y) Q) -∗ WP c (.op (.load a r.toLoadRect hl) k) Q) := by
  subst hY
  unfold own owns
  iintro ⟨%f, %hf, H⟩ Hk
  iapply (wp_load_rect 𝒱₀ (c : Thread nD τ) none Set.univ (m := a) (r := r) (S := a.view.set) (f := f) (q := sh) (a.view.set_slice_subset r)) $$ H
  iintro H
  rw [show (a.access r).read (Elt F) f = fun i => X (r.emb i) from by rw [← hf]; rfl]
  iapply Hk
  iexists f
  isplitr
  · ipureintro; exact hf
  · iexact H

/-- A store over a whole slice. -/
theorem step_store {α : Type} {Q : α → sProp 𝕄} (c : Dev nD) {cs : CoreSpace} {s : Shape} {e : EltTy} {a : Memref sig .tc cs s e} {r : Rect s} (hr : ∀ i, r.stride i = 1)
    (w : r.shape.Idx → Elt F e) {hx : (a.access r).Stores Finset.univ} {hm : (Finset.univ : Finset r.shape.Idx) = Finset.univ ∨ ∀ i, r.stride i = 1} {k : PUnit → Prog (TpuEff nD τ sig (Elt F) Λ₀ .tc) α} :
    room c (a.slice r hr)
      ⊢ iprop((own c (a.slice r hr) fullShare w -∗ WP c (k ⟨⟩) Q) -∗ WP c (.op (.store a r w Finset.univ hx hm) k) Q) := by
  unfold room own owns
  iintro ⟨%f, H⟩ Hk
  iapply (wp_store 𝒱₀ (c : Thread nD τ) none Set.univ (m := a) (r := r) (Mk := Finset.univ) (S := (a.slice r hr).view.set) (f := f) (Finset.Subset.refl _)) $$ H
  iintro H
  iapply Hk
  iexists _
  isplitr
  · ipureintro; exact View.read_write_univ f w
  · iexact H

end Vector

end Cert.KernelIdeal.Hand
-- ==== Proof.Parts.lean ====
/-
The kernel's eleven printed parts and its tail, each as a triple in continuation form over the protocol: what the part
takes of the device's holdings and what it leaves.
-/
module

public import proofs.«01_k».proof.Proof.Steps

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 20 → ℕ)

/-! ## The semaphores, by number -/

abbrev sI0 : DmaSem sig := ((cc0_scratch10.slice (Rect.unit (s := S5) ![0] S1.size inb_S5_S1_0)).squeeze S_ squeezes_S1_S_).sem
abbrev sI1 : DmaSem sig := ((cc0_scratch10.slice (Rect.unit (s := S5) ![1] S1.size inb_S5_S1_1)).squeeze S_ squeezes_S1_S_).sem
abbrev sI2 : DmaSem sig := ((cc0_scratch10.slice (Rect.unit (s := S5) ![2] S1.size inb_S5_S1_2)).squeeze S_ squeezes_S1_S_).sem
abbrev sI3 : DmaSem sig := ((cc0_scratch10.slice (Rect.unit (s := S5) ![3] S1.size inb_S5_S1_3)).squeeze S_ squeezes_S1_S_).sem
abbrev sI4 : DmaSem sig := ((cc0_scratch10.slice (Rect.unit (s := S5) ![4] S1.size inb_S5_S1_4)).squeeze S_ squeezes_S1_S_).sem
abbrev sO0 : DmaSem sig := ((cc0_scratch11.slice (Rect.unit (s := S2) ![0] S1.size inb_S2_S1_0)).squeeze S_ squeezes_S1_S_).sem
abbrev sO1 : DmaSem sig := ((cc0_scratch11.slice (Rect.unit (s := S2) ![1] S1.size inb_S2_S1_1)).squeeze S_ squeezes_S1_S_).sem
abbrev sS0 : DmaSem sig := ((cc0_scratch12.slice (Rect.unit (s := S6) ![0] S1.size inb_S6_S1_0)).squeeze S_ squeezes_S1_S_).sem
abbrev sS1 : DmaSem sig := ((cc0_scratch12.slice (Rect.unit (s := S6) ![1] S1.size inb_S6_S1_1)).squeeze S_ squeezes_S1_S_).sem
abbrev sS2 : DmaSem sig := ((cc0_scratch12.slice (Rect.unit (s := S6) ![2] S1.size inb_S6_S1_2)).squeeze S_ squeezes_S1_S_).sem
abbrev sS3 : DmaSem sig := ((cc0_scratch12.slice (Rect.unit (s := S6) ![3] S1.size inb_S6_S1_3)).squeeze S_ squeezes_S1_S_).sem
abbrev sS4 : DmaSem sig := ((cc0_scratch12.slice (Rect.unit (s := S6) ![4] S1.size inb_S6_S1_4)).squeeze S_ squeezes_S1_S_).sem
abbrev sS5 : DmaSem sig := ((cc0_scratch12.slice (Rect.unit (s := S6) ![5] S1.size inb_S6_S1_5)).squeeze S_ squeezes_S1_S_).sem
abbrev sR0 : DmaSem sig := ((cc0_scratch13.slice (Rect.unit (s := S6) ![0] S1.size inb_S6_S1_0)).squeeze S_ squeezes_S1_S_).sem
abbrev sR1 : DmaSem sig := ((cc0_scratch13.slice (Rect.unit (s := S6) ![1] S1.size inb_S6_S1_1)).squeeze S_ squeezes_S1_S_).sem
abbrev sR2 : DmaSem sig := ((cc0_scratch13.slice (Rect.unit (s := S6) ![2] S1.size inb_S6_S1_2)).squeeze S_ squeezes_S1_S_).sem
abbrev sR3 : DmaSem sig := ((cc0_scratch13.slice (Rect.unit (s := S6) ![3] S1.size inb_S6_S1_3)).squeeze S_ squeezes_S1_S_).sem
abbrev sR4 : DmaSem sig := ((cc0_scratch13.slice (Rect.unit (s := S6) ![4] S1.size inb_S6_S1_4)).squeeze S_ squeezes_S1_S_).sem
abbrev sR5 : DmaSem sig := ((cc0_scratch13.slice (Rect.unit (s := S6) ![5] S1.size inb_S6_S1_5)).squeeze S_ squeezes_S1_S_).sem

/-! ## Loads of whole memrefs -/

theorem full_emb2 {s : Shape} {α : Type} (X : s.Idx → α) (off : Fin s.rank → ℕ) (hoff : ∀ a, off a = 0) (inb) :
    (fun i => X ((Rect.unit (s := s) off s.size inb).emb i)) = X := by
  funext i
  congr 1
  funext a
  apply Fin.ext
  show off a + 1 * (i a).val = (i a).val
  rw [hoff a]; omega

theorem zero2 (a : Fin 2) : (![0, 0] : Fin 2 → ℕ) a = 0 := by fin_cases a <;> rfl

/-- The two halves of an owned memref's share. -/
theorem own_split {sp : Space} {s : Shape} {e : EltTy} (c : Dev nD) (a : Memref sig .tc sp s e) (X : s.Idx → Elt F e) :
    (own c a fullShare X : sProp 𝕄) ⊢ iprop(own c a fullShare.left X ∗ own c a fullShare.right X) := (owns_halves (c : Thread nD τ) a fullShare X).1
theorem own_rejoin {sp : Space} {s : Shape} {e : EltTy} (c : Dev nD) (a : Memref sig .tc sp s e) (X : s.Idx → Elt F e) :
    iprop(own c a fullShare.left X ∗ own c a fullShare.right X) ⊢ (own c a fullShare X : sProp 𝕄) := (owns_halves (c : Thread nD τ) a fullShare X).2

/-- Part 1: both barrier signals, which hand this device's landing rows to its neighbours, and four fetches. -/
theorem part1 {Q} (c : Dev nD) :
    iprop(recs m K ∗ ow c (O₀ c) ∗ dutyTok ER (barCell (lft c)) 0 true ∗ dutyTok ER (barCell (rgt c)) 0 false ∗ (room c (sl0 lM) ∗ room c (sl1 lM) ∗ room c (sl0 dM)) ∗ (room c (sl0 rM) ∗ room c (sl1 rM) ∗ room c (sl1 dM)) ∗ own c xH fullShare (xV m c) ∗ room c xM ∗ idle c 0 ∗ own c wqH fullShare (wqV m c) ∗ room c wqM ∗ idle c 1 ∗ own c woH fullShare (woV m c) ∗ room c woM ∗ idle c 2 ∗ own c (colM wkH c) fullShare (wkV m c) ∗ room c wkM ∗ idle c 3)
      ⊢ iprop((∀ v5 v7, (ow c (Ow6 c) ∗ pend c 0 ∗ pend c 1 ∗ pend c 2 ∗ pend c 3) -∗ Q ⟨c, v5, v7, SemArray.scalar (sig.barrier 0 rfl)⟩) -∗ WP c (k0_part1 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 ) Q) := by
  rw [k0_part1_eq_skeleton]; unfold k0_part1_skel
  simp only [semSignalWord, semWaitWord, Prog.lift, Prog.bind_op, Prog.bind_ret, Prog.pure_eq_ret, wp_deviceId]
  iintro ⟨#HR, HO, TL, TR, BR, BL, S0, D0, I0, S1, D1, I1, S2, D2, I2, S3, D3, I3⟩ Hk
  iapply (step_signal m K c (lft c) ⟨k0_dev1 c, k0_dev1_lt c⟩ (dev1_eq c) true (Ow7 c) (by decide)) $$ [HO TL BR]
  · isplitr; · iexact HR
    isplitl [HO]; · iexact HO
    isplitl [TL]; · iexact TL
    rw [payload_bar_true]; unfold barPayR; rw [rgt_lft]; iexact BR
  iintro HO
  iapply (step_signal m K c (rgt c) ⟨k0_dev2 c, k0_dev2_lt c⟩ (dev2_eq c) false (Ow6 c) (by decide)) $$ [HO TR BL]
  · isplitr; · iexact HR
    isplitl [HO]; · iexact HO
    isplitl [TR]; · iexact TR
    rw [payload_bar_false]; unfold barPayL; rw [lft_rgt]; iexact BL
  iintro HO
  iapply (step_copy m K c 0 (src := xH) (dst := xM) (sem := .dma sI0) rfl fullShare (xV m c) rfl (Entails.of_eq rfl)) $$ [S0 D0 I0]
  · isplitr; · iexact HR
    isplitl [S0]; · iexact S0
    isplitl [D0]; · iexact D0
    iexact I0
  iintro P0
  iapply (step_copy m K c 1 (src := wqH) (dst := wqM) (sem := .dma sI1) rfl fullShare (wqV m c) rfl (Entails.of_eq rfl)) $$ [S1 D1 I1]
  · isplitr; · iexact HR
    isplitl [S1]; · iexact S1
    isplitl [D1]; · iexact D1
    iexact I1
  iintro P1
  iapply (step_copy m K c 2 (src := woH) (dst := woM) (sem := .dma sI2) rfl fullShare (woV m c) rfl (Entails.of_eq rfl)) $$ [S2 D2 I2]
  · isplitr; · iexact HR
    isplitl [S2]; · iexact S2
    isplitl [D2]; · iexact D2
    iexact I2
  iintro P2
  iapply (step_copy m K c 3 (src := (colM wkH c)) (dst := wkM) (sem := .dma sI3) rfl fullShare (wkV m c) rfl (Entails.of_eq rfl)) $$ [S3 D3 I3]
  · isplitr; · iexact HR
    isplitl [S3]; · iexact S3
    isplitl [D3]; · iexact D3
    iexact I3
  iintro P3
  iapply (wp_done c _)
  iapply Hk
  isplitl [HO]; · iexact HO
  isplitl [P0]; · iexact P0
  isplitl [P1]; · iexact P1
  isplitl [P2]; · iexact P2
  iexact P3

/-- Part 2: the fifth fetch, the waits for all five, and the loads of the weights and of row 0. -/
theorem part2 {Q} (c : Dev nD) :
    iprop(recs m K ∗ ow c (Ow6 c) ∗ pend c 0 ∗ pend c 1 ∗ pend c 2 ∗ pend c 3 ∗ own c (colM wvH c) fullShare (wvV m c) ∗ room c wvM ∗ idle c 4)
      ⊢ iprop(((ow c (Ow6 c) ∗ fin c 0 ∗ fin c 1 ∗ fin c 2 ∗ fin c 3 ∗ fin c 4 ∗ own c xH fullShare (xV m c) ∗ own c wqH fullShare (wqV m c) ∗ own c woH fullShare (woV m c) ∗ own c (colM wkH c) fullShare (wkV m c) ∗ own c (colM wvH c) fullShare (wvV m c) ∗ own c xM fullShare (xV m c) ∗ own c wqM fullShare (wqV m c) ∗ own c woM fullShare (woV m c) ∗ own c wkM fullShare (wkV m c) ∗ own c wvM fullShare (wvV m c)) -∗ Q ⟨k0_pay1 (wkV m c) (wvV m c), k0_pay2 (wqV m c), k0_pay3 (woV m c), k0_pay5 (wqV m c) (x0V m c), k0_pay7 (wkV m c) (wvV m c) (x0V m c), k0_pay8 (wkV m c) (wvV m c) (x0V m c), k0_pay9 (wqV m c) (x0V m c)⟩) -∗ WP c (k0_part2 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 c) Q) := by
  rw [k0_part2_eq_skeleton]; unfold k0_part2_skel
  simp only [semSignalWord, semWaitWord, Prog.lift, Prog.bind_op, Prog.bind_ret, Prog.pure_eq_ret, wp_deviceId]
  iintro ⟨#HR, HO, P0, P1, P2, P3, S4, D4, I4⟩ Hk
  iapply (step_copy m K c 4 (src := (colM wvH c)) (dst := wvM) (sem := .dma sI4) rfl fullShare (wvV m c) rfl (Entails.of_eq rfl)) $$ [S4 D4 I4]
  · isplitr; · iexact HR
    isplitl [S4]; · iexact S4
    isplitl [D4]; · iexact D4
    iexact I4
  iintro P4
  iapply (step_wait m K c 0 (src := xH) (dst := xM) (sem := sI0) rfl rfl (Ow6 c) 1 (above_Ow6 c) (by decide) (P := iprop(own c xM fullShare (xV m c) ∗ own c xH fullShare (xV m c))) rfl) $$ [P0 HO]
  · isplitr; · iexact HR
    isplitl [P0]; · iexact P0
    iexact HO
  iintro ⟨F0, ⟨D0, S0⟩, HO⟩
  iapply (step_wait m K c 1 (src := wqH) (dst := wqM) (sem := sI1) rfl rfl (Ow6 c) 1 (above_Ow6 c) (by decide) (P := iprop(own c wqM fullShare (wqV m c) ∗ own c wqH fullShare (wqV m c))) rfl) $$ [P1 HO]
  · isplitr; · iexact HR
    isplitl [P1]; · iexact P1
    iexact HO
  iintro ⟨F1, ⟨D1, S1⟩, HO⟩
  iapply (step_wait m K c 3 (src := (colM wkH c)) (dst := wkM) (sem := sI3) rfl rfl (Ow6 c) 1 (above_Ow6 c) (by decide) (P := iprop(own c wkM fullShare (wkV m c) ∗ own c (colM wkH c) fullShare (wkV m c))) rfl) $$ [P3 HO]
  · isplitr; · iexact HR
    isplitl [P3]; · iexact P3
    iexact HO
  iintro ⟨F3, ⟨D3, S3⟩, HO⟩
  iapply (step_wait m K c 4 (src := (colM wvH c)) (dst := wvM) (sem := sI4) rfl rfl (Ow6 c) 1 (above_Ow6 c) (by decide) (P := iprop(own c wvM fullShare (wvV m c) ∗ own c (colM wvH c) fullShare (wvV m c))) rfl) $$ [P4 HO]
  · isplitr; · iexact HR
    isplitl [P4]; · iexact P4
    iexact HO
  iintro ⟨F4, ⟨D4, S4⟩, HO⟩
  iapply (step_wait m K c 2 (src := woH) (dst := woM) (sem := sI2) rfl rfl (Ow6 c) 1 (above_Ow6 c) (by decide) (P := iprop(own c woM fullShare (woV m c) ∗ own c woH fullShare (woV m c))) rfl) $$ [P2 HO]
  · isplitr; · iexact HR
    isplitl [P2]; · iexact P2
    iexact HO
  iintro ⟨F2, ⟨D2, S2⟩, HO⟩
  iapply (step_load_in c (a := wkM) (r := Rect.unit (s := S512x128) ![0, 0] S512x128.size inb_S512x128_S512x128_0_0) fullShare (wkV m c) (Y := wkV m c) (full_emb2 _ _ zero2 _)) $$ D3
  iintro D3
  iapply (step_load_in c (a := wvM) (r := Rect.unit (s := S512x128) ![0, 0] S512x128.size inb_S512x128_S512x128_0_0) fullShare (wvV m c) (Y := wvV m c) (full_emb2 _ _ zero2 _)) $$ D4
  iintro D4
  iapply (step_load_in c (a := wqM) (r := Rect.unit (s := S512x512) ![0, 0] S512x512.size inb_S512x512_S512x512_0_0) fullShare (wqV m c) (Y := wqV m c) (full_emb2 _ _ zero2 _)) $$ D1
  iintro D1
  iapply (step_load_in c (a := woM) (r := Rect.unit (s := S512x512) ![0, 0] S512x512.size inb_S512x512_S512x512_0_0) fullShare (woV m c) (Y := woV m c) (full_emb2 _ _ zero2 _)) $$ D2
  iintro D2
  iapply (step_load_in c (a := xM) (r := Rect.unit (s := S2x128x512) ![0, 0, 0] S1x128x512.size inb_S2x128x512_S1x128x512_0_0_0) fullShare (xV m c) (Y := x0V m c) rfl) $$ D0
  iintro D0
  iapply (wp_done c _)
  iapply Hk
  isplitl [HO]; · iexact HO
  isplitl [F0]; · iexact F0
  isplitl [F1]; · iexact F1
  isplitl [F2]; · iexact F2
  isplitl [F3]; · iexact F3
  isplitl [F4]; · iexact F4
  isplitl [S0]; · iexact S0
  isplitl [S1]; · iexact S1
  isplitl [S2]; · iexact S2
  isplitl [S3]; · iexact S3
  isplitl [S4]; · iexact S4
  isplitl [D0]; · iexact D0
  isplitl [D1]; · iexact D1
  isplitl [D2]; · iexact D2
  isplitl [D3]; · iexact D3
  iexact D4

/-- Part 3: row 0's message stored, and the wait for both neighbours. -/
theorem part3 {Q} (c : Dev nD) (v49 : FVec F S512x512 .bf16) (v56 : FVec F S128x512 .bf16) (v59 : FVec F S128x128 .bf16) (v60 : FVec F S128x128 .bf16) (v61 : FVec F S128x64 .bf16) :
    iprop(recs m K ∗ ow c (Ow6 c) ∗ room c (sl0 mineM) ∗ atPos ER (barCell c) 0 ∅ 0 ∗ cred (tallyAt (barCell c) () 2))
      ⊢ iprop(((ow c (Ow6 c) ∗ own c (sl0 mineM) fullShare (k0_pay11 v49 v56 v59 v60 v61) ∗ semVal (barCell c) 0 ∗ barPayL c ∗ barPayR c) -∗ Q (k0_pay10 v49 v56 v59 v60 v61)) -∗ WP c (k0_part3 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 (SemArray.scalar (sig.barrier 0 rfl)) v49 v56 v59 v60 v61) Q) := by
  rw [k0_part3_eq_skeleton]; unfold k0_part3_skel
  simp only [semSignalWord, semWaitWord, Prog.lift, Prog.bind_op, Prog.bind_ret, Prog.pure_eq_ret, wp_deviceId]
  iintro ⟨#HR, HO, HM, AB, CB⟩ Hk
  iapply (step_load_room c (a := mineM) (fun _ => rfl)) $$ HM
  iintro %_ HM
  iapply (step_store c (a := mineM) (fun _ => rfl) (k0_pay11 v49 v56 v59 v60 v61)) $$ HM
  iintro HM
  iapply (step_barwait m K c (Ow6 c) (above_Ow6 c) (by decide)) $$ [AB CB HO]
  · isplitr; · iexact HR
    isplitl [AB]; · iexact AB
    isplitl [CB]; · iexact CB
    iexact HO
  iintro ⟨ZB, BL, BR, HO⟩
  iapply (wp_done c _)
  iapply Hk
  isplitl [HO]; · iexact HO
  isplitl [HM]; · iexact HM
  isplitl [ZB]; · iexact ZB
  isplitl [BL]; · iexact BL
  iexact BR

/-- Part 4: row 0's message sent both ways, and the load of row 1. -/
theorem part4 {Q} (c : Dev nD) (v5 v7 : BitVec 32) (v45 : FVec F S512x256 .bf16) (v47 : FVec F S512x512 .bf16) :
    iprop(recs m K ∗ ow c (Ow6 c) ∗ own c (sl0 mineM) fullShare (msg0 m c) ∗ room (rgt c) (sl0 lM) ∗ room (lft c) (sl0 rM) ∗ idle c 7 ∗ idle c 8 ∗ tok (rgt c) 13 ∗ tok (lft c) 14 ∗ own c xM fullShare (xV m c))
      ⊢ iprop(((ow c (Ow4 c) ∗ pend c 7 ∗ pend c 8 ∗ own c xM fullShare (xV m c)) -∗ Q ⟨k0_pay13 v47 (x1V m c), k0_pay15 v45 (x1V m c), k0_pay16 v45 (x1V m c), k0_pay17 v47 (x1V m c), k0_pay18 v47 (x1V m c)⟩) -∗ WP c (k0_part4 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 c v5 v7 v45 v47) Q) := by
  rw [k0_part4_eq_skeleton]; unfold k0_part4_skel
  simp only [semSignalWord, semWaitWord, Prog.lift, Prog.bind_op, Prog.bind_ret, Prog.pure_eq_ret, wp_deviceId]
  iintro ⟨#HR, HO, HM, RR, RL, I7, I8, TR, TL, HX⟩ Hk
  ihave HM' := (own_split c (sl0 mineM) (msg0 m c)) $$ HM
  icases HM' with ⟨M1, M2⟩
  iapply (step_send_row m K c (rgt c) ⟨k0_dev3 c, k0_dev3_lt c⟩ (dev3_eq c) 7 13 (src := (sl0 mineM)) (dst := (sl0 lM)) (s₁ := sS0) (s₂ := sR0) rfl rfl fullShare.left (msg0 m c) rfl rfl (Entails.of_eq rfl) (Entails.of_eq (by unfold pay; simp only [lft_rgt])) (Ow5 c)) $$ [M1 RR I7 TR HO]
  · isplitr; · iexact HR
    isplitl [M1]; · iexact M1
    isplitl [RR]; · iexact RR
    isplitl [I7]; · iexact I7
    isplitl [TR]; · iexact TR
    iexact HO
  iintro ⟨P7, HO⟩
  iapply (step_send_row m K c (lft c) ⟨k0_dev4 c, k0_dev4_lt c⟩ (dev4_eq c) 8 14 (src := (sl0 mineM)) (dst := (sl0 rM)) (s₁ := sS1) (s₂ := sR1) rfl rfl fullShare.right (msg0 m c) rfl rfl (Entails.of_eq rfl) (Entails.of_eq (by unfold pay; simp only [rgt_lft])) (Ow4 c)) $$ [M2 RL I8 TL HO]
  · isplitr; · iexact HR
    isplitl [M2]; · iexact M2
    isplitl [RL]; · iexact RL
    isplitl [I8]; · iexact I8
    isplitl [TL]; · iexact TL
    iexact HO
  iintro ⟨P8, HO⟩
  iapply (step_load_in c (a := xM) (r := Rect.unit (s := S2x128x512) ![1, 0, 0] S1x128x512.size inb_S2x128x512_S1x128x512_1_0_0) fullShare (xV m c) (Y := x1V m c) rfl) $$ HX
  iintro HX
  iapply (wp_done c _)
  iapply Hk
  isplitl [HO]; · iexact HO
  isplitl [P7]; · iexact P7
  isplitl [P8]; · iexact P8
  iexact HX

/-- Part 5: row 1's message stored. -/
theorem part5 {Q} (c : Dev nD) (v49 : FVec F S512x512 .bf16) (v133 : FVec F S128x512 .bf16) (v136 : FVec F S128x128 .bf16) (v137 : FVec F S128x128 .bf16) (v138 : FVec F S128x64 .bf16) (v139 : FVec F S128x64 .bf16) :
    iprop(recs m K ∗ room c (sl1 mineM))
      ⊢ iprop(((own c (sl1 mineM) fullShare (k0_pay20 v49 v133 v136 v137 v138 v139)) -∗ Q ⟨k0_pay19 v49 v133 v136 v137 v138 v139, 1#32⟩) -∗ WP c (k0_part5 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 v49 v133 v136 v137 v138 v139) Q) := by
  rw [k0_part5_eq_skeleton]; unfold k0_part5_skel
  simp only [semSignalWord, semWaitWord, Prog.lift, Prog.bind_op, Prog.bind_ret, Prog.pure_eq_ret, wp_deviceId]
  iintro ⟨#HR, HM⟩ Hk
  iapply (step_load_room c (a := mineM) (fun _ => rfl)) $$ HM
  iintro %_ HM
  iapply (step_store c (a := mineM) (fun _ => rfl) (k0_pay20 v49 v133 v136 v137 v138 v139)) $$ HM
  iintro HM
  iapply (wp_done c _)
  iapply Hk
  iexact HM

/-- Part 6: row 1's message sent both ways, and the wait for the left neighbour's row 0. -/
theorem part6 {Q} (c : Dev nD) (v5 v7 w : BitVec 32) :
    iprop(recs m K ∗ ow c (Ow4 c) ∗ own c (sl1 mineM) fullShare (msg1 m c) ∗ room (rgt c) (sl1 lM) ∗ room (lft c) (sl1 rM) ∗ idle c 9 ∗ idle c 10 ∗ tok (rgt c) 15 ∗ tok (lft c) 16 ∗ pend c 13)
      ⊢ iprop(((ow c (Ow2 c) ∗ pend c 9 ∗ pend c 10 ∗ fin c 13 ∗ own c (sl0 lM) fullShare (msg0 m (lft c))) -∗ Q ⟨⟩) -∗ WP c (k0_part6 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 c v5 v7 w) Q) := by
  rw [k0_part6_eq_skeleton]; unfold k0_part6_skel
  simp only [semSignalWord, semWaitWord, Prog.lift, Prog.bind_op, Prog.bind_ret, Prog.pure_eq_ret, wp_deviceId]
  iintro ⟨#HR, HO, HM, RR, RL, I9, I10, TR, TL, P13⟩ Hk
  ihave HM' := (own_split c (sl1 mineM) (msg1 m c)) $$ HM
  icases HM' with ⟨M1, M2⟩
  iapply (step_send_row m K c (rgt c) ⟨k0_dev5 c, k0_dev5_lt c⟩ (dev5_eq c) 9 15 (src := (sl1 mineM)) (dst := (sl1 lM)) (s₁ := sS2) (s₂ := sR2) rfl rfl fullShare.left (msg1 m c) rfl rfl (Entails.of_eq rfl) (Entails.of_eq (by unfold pay; simp only [lft_rgt])) (Ow3 c)) $$ [M1 RR I9 TR HO]
  · isplitr; · iexact HR
    isplitl [M1]; · iexact M1
    isplitl [RR]; · iexact RR
    isplitl [I9]; · iexact I9
    isplitl [TR]; · iexact TR
    iexact HO
  iintro ⟨P9, HO⟩
  iapply (step_send_row m K c (lft c) ⟨k0_dev6 c, k0_dev6_lt c⟩ (dev6_eq c) 10 16 (src := (sl1 mineM)) (dst := (sl1 rM)) (s₁ := sS3) (s₂ := sR3) rfl rfl fullShare.right (msg1 m c) rfl rfl (Entails.of_eq rfl) (Entails.of_eq (by unfold pay; simp only [rgt_lft])) (Ow2 c)) $$ [M2 RL I10 TL HO]
  · isplitr; · iexact HR
    isplitl [M2]; · iexact M2
    isplitl [RL]; · iexact RL
    isplitl [I10]; · iexact I10
    isplitl [TL]; · iexact TL
    iexact HO
  iintro ⟨P10, HO⟩
  iapply (step_wait m K c 13 (src := (sq (sl0 mineM))) (dst := (sq (sl0 lM))) (sem := sR0) rfl rfl (Ow2 c) 2 (above_Ow2 c) (by decide) (P := own c (sl0 lM) fullShare (msg0 m (lft c))) rfl) $$ [P13 HO]
  · isplitr; · iexact HR
    isplitl [P13]; · iexact P13
    iexact HO
  iintro ⟨F13, L0, HO⟩
  iapply (wp_done c _)
  iapply Hk
  isplitl [HO]; · iexact HO
  isplitl [P9]; · iexact P9
  isplitl [P10]; · iexact P10
  isplitl [F13]; · iexact F13
  iexact L0

/-- Part 7: the left neighbour's row 0 forwarded to the right, and both neighbours' row 0 loaded. -/
theorem part7 {Q} (c : Dev nD) (v5 v7 : BitVec 32) (v102 : FVec F S128x512 .f32) :
    iprop(recs m K ∗ ow c (Ow2 c) ∗ own c (sl0 lM) fullShare (msg0 m (lft c)) ∗ room (rgt c) (sl0 dM) ∗ idle c 11 ∗ tok (rgt c) 17 ∗ pend c 14)
      ⊢ iprop(((ow c (Ow1 c) ∗ pend c 11 ∗ fin c 14 ∗ own c (sl0 lM) fullShare.right (msg0 m (lft c)) ∗ own c (sl0 rM) fullShare (msg0 m (rgt c))) -∗ Q (k0_pay21 v102 (msg0 m (lft c)) (msg0 m (rgt c)))) -∗ WP c (k0_part7 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 c v5 v7 v102) Q) := by
  rw [k0_part7_eq_skeleton]; unfold k0_part7_skel
  simp only [semSignalWord, semWaitWord, Prog.lift, Prog.bind_op, Prog.bind_ret, Prog.pure_eq_ret, wp_deviceId]
  iintro ⟨#HR, HO, L0, RR, I11, TR, P14⟩ Hk
  ihave L0' := (own_split c (sl0 lM) (msg0 m (lft c))) $$ L0
  icases L0' with ⟨L1, L2⟩
  iapply (step_send_row m K c (rgt c) ⟨k0_dev7 c, k0_dev7_lt c⟩ (dev7_eq c) 11 17 (src := (sl0 lM)) (dst := (sl0 dM)) (s₁ := sS4) (s₂ := sR4) rfl rfl fullShare.left (msg0 m (lft c)) rfl rfl (Entails.of_eq rfl) (Entails.of_eq (by unfold pay; simp only [lft_rgt])) (Ow1 c)) $$ [L1 RR I11 TR HO]
  · isplitr; · iexact HR
    isplitl [L1]; · iexact L1
    isplitl [RR]; · iexact RR
    isplitl [I11]; · iexact I11
    isplitl [TR]; · iexact TR
    iexact HO
  iintro ⟨P11, HO⟩
  iapply (step_wait m K c 14 (src := (sq (sl0 mineM))) (dst := (sq (sl0 rM))) (sem := sR1) rfl rfl (Ow1 c) 2 (above_Ow1 c) (by decide) (P := own c (sl0 rM) fullShare (msg0 m (rgt c))) rfl) $$ [P14 HO]
  · isplitr; · iexact HR
    isplitl [P14]; · iexact P14
    iexact HO
  iintro ⟨F14, R0, HO⟩
  iapply (step_load c (a := lM) (fun _ => rfl) fullShare.right (msg0 m (lft c))) $$ L2
  iintro L2
  iapply (step_load c (a := rM) (fun _ => rfl) fullShare (msg0 m (rgt c))) $$ R0
  iintro R0
  iapply (wp_done c _)
  iapply Hk
  isplitl [HO]; · iexact HO
  isplitl [P11]; · iexact P11
  isplitl [F14]; · iexact F14
  isplitl [L2]; · iexact L2
  iexact R0

/-- Part 8: the right neighbour's row 1 forwarded to the left, and both neighbours' row 1 loaded. -/
theorem part8 {Q} (c : Dev nD) (v5 v7 : BitVec 32) (v179 : FVec F S128x512 .f32) :
    iprop(recs m K ∗ ow c (Ow1 c) ∗ room (lft c) (sl1 dM) ∗ idle c 12 ∗ tok (lft c) 18 ∗ pend c 15 ∗ pend c 16)
      ⊢ iprop(((ow c 0 ∗ pend c 12 ∗ fin c 15 ∗ fin c 16 ∗ own c (sl1 lM) fullShare (msg1 m (lft c)) ∗ own c (sl1 rM) fullShare.right (msg1 m (rgt c))) -∗ Q ⟨k0_pay22 v179 (msg1 m (lft c)), msg1 m (rgt c)⟩) -∗ WP c (k0_part8 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 c v5 v7 v179) Q) := by
  rw [k0_part8_eq_skeleton]; unfold k0_part8_skel
  simp only [semSignalWord, semWaitWord, Prog.lift, Prog.bind_op, Prog.bind_ret, Prog.pure_eq_ret, wp_deviceId]
  iintro ⟨#HR, HO, RL, I12, TL, P15, P16⟩ Hk
  iapply (step_wait m K c 16 (src := (sq (sl1 mineM))) (dst := (sq (sl1 rM))) (sem := sR3) rfl rfl (Ow1 c) 2 (above_Ow1 c) (by decide) (P := own c (sl1 rM) fullShare (msg1 m (rgt c))) rfl) $$ [P16 HO]
  · isplitr; · iexact HR
    isplitl [P16]; · iexact P16
    iexact HO
  iintro ⟨F16, R1, HO⟩
  ihave R1' := (own_split c (sl1 rM) (msg1 m (rgt c))) $$ R1
  icases R1' with ⟨R1, R2⟩
  iapply (step_send_row m K c (lft c) ⟨k0_dev8 c, k0_dev8_lt c⟩ (dev8_eq c) 12 18 (src := (sl1 rM)) (dst := (sl1 dM)) (s₁ := sS5) (s₂ := sR5) rfl rfl fullShare.left (msg1 m (rgt c)) rfl rfl (Entails.of_eq rfl) (Entails.of_eq (by unfold pay; simp only [rgt_lft])) 0) $$ [R1 RL I12 TL HO]
  · isplitr; · iexact HR
    isplitl [R1]; · iexact R1
    isplitl [RL]; · iexact RL
    isplitl [I12]; · iexact I12
    isplitl [TL]; · iexact TL
    iexact HO
  iintro ⟨P12, HO⟩
  iapply (step_wait m K c 15 (src := (sq (sl1 mineM))) (dst := (sq (sl1 lM))) (sem := sR2) rfl rfl 0 2 (above_zero 2) (by decide) (P := own c (sl1 lM) fullShare (msg1 m (lft c))) rfl) $$ [P15 HO]
  · isplitr; · iexact HR
    isplitl [P15]; · iexact P15
    iexact HO
  iintro ⟨F15, L1, HO⟩
  iapply (step_load c (a := lM) (fun _ => rfl) fullShare (msg1 m (lft c))) $$ L1
  iintro L1
  iapply (step_load c (a := rM) (fun _ => rfl) fullShare.right (msg1 m (rgt c))) $$ R2
  iintro R2
  iapply (wp_done c _)
  iapply Hk
  isplitl [HO]; · iexact HO
  isplitl [P12]; · iexact P12
  isplitl [F15]; · iexact F15
  isplitl [F16]; · iexact F16
  isplitl [L1]; · iexact L1
  iexact R2

/-- Part 9: the opposite device's row 0 arrives; row 0's sum is stored and its write-back started. -/
theorem part9 {Q} (c : Dev nD) (v5 v7 : BitVec 32) (v237 v267 : FVec F S128x512 .f32) (v268 : Vec F S1x128x512 .bf16) (hv : k0_pay24 v237 (msg0 m (lft (lft c))) = res0 m c) :
    iprop(recs m K ∗ ow c 0 ∗ pend c 17 ∗ room c (sl0 oM) ∗ room c (sl0 oH) ∗ idle c 5)
      ⊢ iprop(((ow c 0 ∗ fin c 17 ∗ own c (sl0 dM) fullShare (msg0 m (lft (lft c))) ∗ pend c 5) -∗ Q (k0_pay23 v267 v268)) -∗ WP c (k0_part9 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 v5 v7 v237 v267 v268) Q) := by
  rw [k0_part9_eq_skeleton]; unfold k0_part9_skel
  simp only [semSignalWord, semWaitWord, Prog.lift, Prog.bind_op, Prog.bind_ret, Prog.pure_eq_ret, wp_deviceId]
  iintro ⟨#HR, HO, P17, OM, OH, I5⟩ Hk
  iapply (step_wait m K c 17 (src := (sq (sl0 lM))) (dst := (sq (sl0 dM))) (sem := sR4) rfl rfl 0 3 (above_zero 3) (by decide) (P := own c (sl0 dM) fullShare (msg0 m (lft (lft c)))) rfl) $$ [P17 HO]
  · isplitr; · iexact HR
    isplitl [P17]; · iexact P17
    iexact HO
  iintro ⟨F17, DD, HO⟩
  iapply (step_load c (a := dM) (fun _ => rfl) fullShare (msg0 m (lft (lft c)))) $$ DD
  iintro DD
  iapply (step_load_room c (a := oM) (fun _ => rfl)) $$ OM
  iintro %_ OM
  iapply (step_store c (a := oM) (fun _ => rfl) (k0_pay24 v237 (msg0 m (lft (lft c))))) $$ OM
  iintro OM
  rw [hv]
  iapply (step_copy_row m K c 5 (src := sl0 oM) (dst := sl0 oH) (sem := .dma sO0) rfl fullShare (res0 m c) rfl (Entails.of_eq rfl)) $$ [OM OH I5]
  · isplitr; · iexact HR
    isplitl [OM]; · iexact OM
    isplitl [OH]; · iexact OH
    iexact I5
  iintro P5
  iapply (wp_done c _)
  iapply Hk
  isplitl [HO]; · iexact HO
  isplitl [F17]; · iexact F17
  isplitl [DD]; · iexact DD
  iexact P5

/-- Part 10: the opposite device's row 1 arrives; row 1's sum is stored and its write-back started; row 0's is awaited. -/
theorem part10 {Q} (c : Dev nD) (v271 : FVec F S128x512 .f32) (hv : k0_pay25 v271 (msg1 m (rgt (rgt c))) = res1 m c) :
    iprop(recs m K ∗ ow c 0 ∗ pend c 18 ∗ room c (sl1 oM) ∗ room c (sl1 oH) ∗ idle c 6 ∗ pend c 5)
      ⊢ iprop(((ow c 0 ∗ fin c 18 ∗ own c (sl1 dM) fullShare (msg1 m (rgt (rgt c))) ∗ pend c 6 ∗ fin c 5 ∗ own c (sl0 oH) fullShare (res0 m c) ∗ own c (sl0 oM) fullShare (res0 m c)) -∗ Q ⟨⟩) -∗ WP c (k0_part10 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 v271) Q) := by
  rw [k0_part10_eq_skeleton]; unfold k0_part10_skel
  simp only [semSignalWord, semWaitWord, Prog.lift, Prog.bind_op, Prog.bind_ret, Prog.pure_eq_ret, wp_deviceId]
  iintro ⟨#HR, HO, P18, OM, OH, I6, P5⟩ Hk
  iapply (step_wait m K c 18 (src := (sq (sl1 rM))) (dst := (sq (sl1 dM))) (sem := sR5) rfl rfl 0 3 (above_zero 3) (by decide) (P := own c (sl1 dM) fullShare (msg1 m (rgt (rgt c)))) rfl) $$ [P18 HO]
  · isplitr; · iexact HR
    isplitl [P18]; · iexact P18
    iexact HO
  iintro ⟨F18, DD, HO⟩
  iapply (step_load c (a := dM) (fun _ => rfl) fullShare (msg1 m (rgt (rgt c)))) $$ DD
  iintro DD
  iapply (step_load_room c (a := oM) (fun _ => rfl)) $$ OM
  iintro %_ OM
  iapply (step_store c (a := oM) (fun _ => rfl) (k0_pay25 v271 (msg1 m (rgt (rgt c))))) $$ OM
  iintro OM
  rw [hv]
  iapply (step_copy_row m K c 6 (src := sl1 oM) (dst := sl1 oH) (sem := .dma sO1) rfl fullShare (res1 m c) rfl (Entails.of_eq rfl)) $$ [OM OH I6]
  · isplitr; · iexact HR
    isplitl [OM]; · iexact OM
    isplitl [OH]; · iexact OH
    iexact I6
  iintro P6
  iapply (step_wait m K c 5 (src := (sq (sl0 oM))) (dst := (sq (sl0 oH))) (sem := sO0) rfl rfl 0 3 (above_zero 3) (by decide) (P := iprop(own c (sl0 oH) fullShare (res0 m c) ∗ own c (sl0 oM) fullShare (res0 m c))) rfl) $$ [P5 HO]
  · isplitr; · iexact HR
    isplitl [P5]; · iexact P5
    iexact HO
  iintro ⟨F5, ⟨OH0, OM0⟩, HO⟩
  iapply (wp_done c _)
  iapply Hk
  isplitl [HO]; · iexact HO
  isplitl [F18]; · iexact F18
  isplitl [DD]; · iexact DD
  isplitl [P6]; · iexact P6
  isplitl [F5]; · iexact F5
  isplitl [OH0]; · iexact OH0
  iexact OM0

/-- Part 11: the waits for row 1's write-back and for the first three sends. -/
theorem part11 {Q} (c : Dev nD) :
    iprop(recs m K ∗ ow c 0 ∗ pend c 6 ∗ pend c 7 ∗ pend c 8 ∗ pend c 9)
      ⊢ iprop(((ow c 0 ∗ fin c 6 ∗ own c (sl1 oH) fullShare (res1 m c) ∗ own c (sl1 oM) fullShare (res1 m c) ∗ fin c 7 ∗ own c (sl0 mineM) fullShare.left (msg0 m c) ∗ fin c 8 ∗ own c (sl0 mineM) fullShare.right (msg0 m c) ∗ fin c 9 ∗ own c (sl1 mineM) fullShare.left (msg1 m c)) -∗ Q ⟨⟩) -∗ WP c (k0_part11 (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13 ) Q) := by
  rw [k0_part11_eq_skeleton]; unfold k0_part11_skel
  simp only [semSignalWord, semWaitWord, Prog.lift, Prog.bind_op, Prog.bind_ret, Prog.pure_eq_ret, wp_deviceId]
  iintro ⟨#HR, HO, P6, P7, P8, P9⟩ Hk
  iapply (step_wait m K c 6 (src := (sq (sl1 oM))) (dst := (sq (sl1 oH))) (sem := sO1) rfl rfl 0 3 (above_zero 3) (by decide) (P := iprop(own c (sl1 oH) fullShare (res1 m c) ∗ own c (sl1 oM) fullShare (res1 m c))) rfl) $$ [P6 HO]
  · isplitr; · iexact HR
    isplitl [P6]; · iexact P6
    iexact HO
  iintro ⟨F6, ⟨OH1, OM1⟩, HO⟩
  iapply (step_wait m K c 7 (src := (sq (sl0 lM))) (dst := (sq (sl0 mineM))) (sem := sS0) rfl rfl 0 3 (above_zero 3) (by decide) (P := own c (sl0 mineM) fullShare.left (msg0 m c)) rfl) $$ [P7 HO]
  · isplitr; · iexact HR
    isplitl [P7]; · iexact P7
    iexact HO
  iintro ⟨F7, M1, HO⟩
  iapply (step_wait m K c 8 (src := (sq (sl0 rM))) (dst := (sq (sl0 mineM))) (sem := sS1) rfl rfl 0 3 (above_zero 3) (by decide) (P := own c (sl0 mineM) fullShare.right (msg0 m c)) rfl) $$ [P8 HO]
  · isplitr; · iexact HR
    isplitl [P8]; · iexact P8
    iexact HO
  iintro ⟨F8, M2, HO⟩
  iapply (step_wait m K c 9 (src := (sq (sl1 lM))) (dst := (sq (sl1 mineM))) (sem := sS2) rfl rfl 0 3 (above_zero 3) (by decide) (P := own c (sl1 mineM) fullShare.left (msg1 m c)) rfl) $$ [P9 HO]
  · isplitr; · iexact HR
    isplitl [P9]; · iexact P9
    iexact HO
  iintro ⟨F9, M3, HO⟩
  iapply (wp_done c _)
  iapply Hk
  isplitl [HO]; · iexact HO
  isplitl [F6]; · iexact F6
  isplitl [OH1]; · iexact OH1
  isplitl [OM1]; · iexact OM1
  isplitl [F7]; · iexact F7
  isplitl [M1]; · iexact M1
  isplitl [F8]; · iexact F8
  isplitl [M2]; · iexact M2
  isplitl [F9]; · iexact F9
  iexact M3

end Cert.KernelIdeal.Hand
-- ==== Proof.Body.lean ====
/-
The whole kernel body on one device: the eleven parts and the tail, one after another.
-/
module

public import proofs.«01_k».proof.Proof.Parts

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 20 → ℕ)

/-! ## What the body takes and leaves -/

/-- The DMA cells this device pays itself, not yet used: five fetches, two write-backs, six sends. -/
def idles (c : Dev nD) : sProp 𝕄 := iprop(idle (F := F) c 0 ∗ idle c 1 ∗ idle c 2 ∗ idle c 3 ∗ idle c 4 ∗ idle c 5 ∗ idle c 6 ∗ idle c 7 ∗ idle c 8 ∗ idle c 9 ∗ idle c 10 ∗ idle c 11 ∗ idle c 12)
/-- The six receive cells. -/
def pends (c : Dev nD) : sProp 𝕄 := iprop(pend (F := F) c 13 ∗ pend c 14 ∗ pend c 15 ∗ pend c 16 ∗ pend c 17 ∗ pend c 18)
/-- The rights to pay the neighbours' receive cells. -/
def toks (c : Dev nD) : sProp 𝕄 := iprop(tok (F := F) (rgt c) 13 ∗ tok (lft c) 14 ∗ tok (rgt c) 15 ∗ tok (lft c) 16 ∗ tok (rgt c) 17 ∗ tok (lft c) 18)
/-- The barrier's: the position, the credit for two units, and the duties on both neighbours. -/
def bars (c : Dev nD) : sProp 𝕄 := iprop(atPos ER (barCell c) 0 ∅ 0 ∗ cred (tallyAt (barCell c) () 2) ∗ dutyTok ER (barCell (lft c)) 0 true ∗ dutyTok ER (barCell (rgt c)) 0 false)
/-- The operands, at their launch contents. -/
def operands (c : Dev nD) : sProp 𝕄 := iprop(own c xH fullShare (xV m c) ∗ own c wqH fullShare (wqV m c) ∗ own c woH fullShare (woV m c) ∗ own c (colM wkH c) fullShare (wkV m c) ∗ own c (colM wvH c) fullShare (wvV m c))
/-- The scratch buffers, by rows where the kernel works by rows. -/
def scratch (c : Dev nD) : sProp 𝕄 := iprop(room (F := F) c xM ∗ room c wqM ∗ room c woM ∗ room c wkM ∗ room c wvM ∗ room c (sl0 oM) ∗ room c (sl1 oM) ∗ room c (sl0 mineM) ∗ room c (sl1 mineM) ∗ room c (sl0 lM) ∗ room c (sl1 lM) ∗ room c (sl0 rM) ∗ room c (sl1 rM) ∗ room c (sl0 dM) ∗ room c (sl1 dM))
/-- The nineteen DMA cells, closed. -/
def fins (c : Dev nD) : sProp 𝕄 := iprop(fin (F := F) c 0 ∗ fin c 1 ∗ fin c 2 ∗ fin c 3 ∗ fin c 4 ∗ fin c 5 ∗ fin c 6 ∗ fin c 7 ∗ fin c 8 ∗ fin c 9 ∗ fin c 10 ∗ fin c 11 ∗ fin c 12 ∗ fin c 13 ∗ fin c 14 ∗ fin c 15 ∗ fin c 16 ∗ fin c 17 ∗ fin c 18)

set_option maxHeartbeats 1600000 in
/-- The body on device `c`: from its holdings it reaches its end owing nothing, its operands unchanged, its two result rows
    written, and every cell closed. -/
theorem body_run {Q} (c : Dev nD) :
    iprop(recs m K ∗ ow c (O₀ c) ∗ idles c ∗ pends c ∗ toks c ∗ bars c ∗ operands m c ∗ scratch c ∗ room c (sl0 oH) ∗ room c (sl1 oH))
      ⊢ iprop(((ow c 0 ∗ fins c ∗ semVal (barCell c) 0 ∗ operands m c ∗ scratch c ∗ own c (sl0 oH) fullShare (res0 m c) ∗ own c (sl1 oH) fullShare (res1 m c)) -∗ Q ⟨⟩)
          -∗ WP c (cc0_body (F := F) xH (Memref.isWhole_whole _) wqH (Memref.isWhole_whole _) woH (Memref.isWhole_whole _) wkH (Memref.isWhole_whole _) wvH (Memref.isWhole_whole _) oH (Memref.isWhole_whole _) xM (Memref.isWhole_whole _) wqM (Memref.isWhole_whole _) woM (Memref.isWhole_whole _) wkM (Memref.isWhole_whole _) wvM (Memref.isWhole_whole _) oM (Memref.isWhole_whole _) mineM (Memref.isWhole_whole _) lM (Memref.isWhole_whole _) rM (Memref.isWhole_whole _) dM (Memref.isWhole_whole _) cc0_scratch10 cc0_scratch11 cc0_scratch12 cc0_scratch13) Q) := by
  rw [cc0_body_eq_skeleton]; unfold cc0_body_skel
  unfold idles pends toks bars operands scratch
  iintro ⟨#HR, HO, ⟨I0, I1, I2, I3, I4, I5, I6, I7, I8, I9, I10, I11, I12⟩, ⟨P13, P14, P15, P16, P17, P18⟩, ⟨T13, T14, T15, T16, T17, T18⟩, ⟨AB, CB, TL, TR⟩, ⟨S0, S1, S2, S3, S4⟩, ⟨D0, D1, D2, D3, D4, O0, O1, M0, M1, L0, L1, R0, R1, E0, E1⟩, OH0, OH1⟩ Hk
  iapply (wp_seq c _ _)
  iapply (part1 m K c) $$ [HO TL TR L0 L1 E0 R0 R1 E1 S0 D0 I0 S1 D1 I1 S2 D2 I2 S3 D3 I3]
  · isplitr; · iexact HR
    isplitl [HO]; · iexact HO
    isplitl [TL]; · iexact TL
    isplitl [TR]; · iexact TR
    isplitl [L0 L1 E0]
    · isplitl [L0]; · iexact L0
      isplitl [L1]; · iexact L1
      iexact E0
    isplitl [R0 R1 E1]
    · isplitl [R0]; · iexact R0
      isplitl [R1]; · iexact R1
      iexact E1
    isplitl [S0]; · iexact S0
    isplitl [D0]; · iexact D0
    isplitl [I0]; · iexact I0
    isplitl [S1]; · iexact S1
    isplitl [D1]; · iexact D1
    isplitl [I1]; · iexact I1
    isplitl [S2]; · iexact S2
    isplitl [D2]; · iexact D2
    isplitl [I2]; · iexact I2
    isplitl [S3]; · iexact S3
    isplitl [D3]; · iexact D3
    iexact I3
  iintro %v5 %v7 ⟨HO, P0, P1, P2, P3⟩
  try dsimp only
  iapply (wp_seq c _ _)
  iapply (part2 m K c) $$ [HO P0 P1 P2 P3 S4 D4 I4]
  · isplitr; · iexact HR
    isplitl [HO]; · iexact HO
    isplitl [P0]; · iexact P0
    isplitl [P1]; · iexact P1
    isplitl [P2]; · iexact P2
    isplitl [P3]; · iexact P3
    isplitl [S4]; · iexact S4
    isplitl [D4]; · iexact D4
    iexact I4
  iintro ⟨HO, F0, F1, F2, F3, F4, S0, S1, S2, S3, S4, D0, D1, D2, D3, D4⟩
  try dsimp only
  iapply (wp_seq c _ _)
  iapply (part3 m K c _ _ _ _ _) $$ [HO M0 AB CB]
  · isplitr; · iexact HR
    isplitl [HO]; · iexact HO
    isplitl [M0]; · iexact M0
    isplitl [AB]; · iexact AB
    iexact CB
  iintro ⟨HO, M0, ZB, BL, BR⟩
  try dsimp only
  unfold barPayL barPayR
  icases BL with ⟨R0, R1, E1⟩
  icases BR with ⟨L0, L1, E0⟩
  iapply (wp_seq c _ _)
  iapply (part4 m K c v5 v7 _ _) $$ [HO M0 L0 R0 I7 I8 T13 T14 D0]
  · isplitr; · iexact HR
    isplitl [HO]; · iexact HO
    isplitl [M0]; · iexact M0
    isplitl [L0]; · iexact L0
    isplitl [R0]; · iexact R0
    isplitl [I7]; · iexact I7
    isplitl [I8]; · iexact I8
    isplitl [T13]; · iexact T13
    isplitl [T14]; · iexact T14
    iexact D0
  iintro ⟨HO, P7, P8, D0⟩
  try dsimp only
  iapply (wp_seq c _ _)
  iapply (part5 m K c _ _ _ _ _ _) $$ [M1]
  · isplitr; · iexact HR
    iexact M1
  iintro M1
  try dsimp only
  iapply (wp_seq c _ _)
  iapply (part6 m K c v5 v7 _) $$ [HO M1 L1 R1 I9 I10 T15 T16 P13]
  · isplitr; · iexact HR
    isplitl [HO]; · iexact HO
    isplitl [M1]; · iexact M1
    isplitl [L1]; · iexact L1
    isplitl [R1]; · iexact R1
    isplitl [I9]; · iexact I9
    isplitl [I10]; · iexact I10
    isplitl [T15]; · iexact T15
    isplitl [T16]; · iexact T16
    iexact P13
  iintro ⟨HO, P9, P10, F13, L0⟩
  try dsimp only
  iapply (wp_seq c _ _)
  iapply (part7 m K c v5 v7 _) $$ [HO L0 E0 I11 T17 P14]
  · isplitr; · iexact HR
    isplitl [HO]; · iexact HO
    isplitl [L0]; · iexact L0
    isplitl [E0]; · iexact E0
    isplitl [I11]; · iexact I11
    isplitl [T17]; · iexact T17
    iexact P14
  iintro ⟨HO, P11, F14, L0, R0⟩
  try dsimp only
  iapply (wp_seq c _ _)
  iapply (part8 m K c v5 v7 _) $$ [HO E1 I12 T18 P15 P16]
  · isplitr; · iexact HR
    isplitl [HO]; · iexact HO
    isplitl [E1]; · iexact E1
    isplitl [I12]; · iexact I12
    isplitl [T18]; · iexact T18
    isplitl [P15]; · iexact P15
    iexact P16
  iintro ⟨HO, P12, F15, F16, L1, R1⟩
  try dsimp only
  iapply (wp_seq c _ _)
  iapply (part9 m K c v5 v7 _ _ _ rfl) $$ [HO P17 O0 OH0 I5]
  · isplitr; · iexact HR
    isplitl [HO]; · iexact HO
    isplitl [P17]; · iexact P17
    isplitl [O0]; · iexact O0
    isplitl [OH0]; · iexact OH0
    iexact I5
  iintro ⟨HO, F17, E0, P5⟩
  try dsimp only
  iapply (wp_seq c _ _)
  iapply (part10 m K c _ rfl) $$ [HO P18 O1 OH1 I6 P5]
  · isplitr; · iexact HR
    isplitl [HO]; · iexact HO
    isplitl [P18]; · iexact P18
    isplitl [O1]; · iexact O1
    isplitl [OH1]; · iexact OH1
    isplitl [I6]; · iexact I6
    iexact P5
  iintro ⟨HO, F18, E1, P6, F5, OH0, O0⟩
  try dsimp only
  iapply (wp_seq c _ _)
  iapply (part11 m K c) $$ [HO P6 P7 P8 P9]
  · isplitr; · iexact HR
    isplitl [HO]; · iexact HO
    isplitl [P6]; · iexact P6
    isplitl [P7]; · iexact P7
    isplitl [P8]; · iexact P8
    iexact P9
  iintro ⟨HO, F6, OH1, O1, F7, M0a, F8, M0b, F9, M1a⟩
  try dsimp only
  simp only [Prog.lift, Prog.bind_op, Prog.bind_ret, Prog.pure_eq_ret]
  iapply (step_wait m K c 10 (src := (sq (sl1 rM))) (dst := (sq (sl1 mineM))) (sem := sS3) rfl rfl 0 3 (above_zero 3) (by decide) (P := own c (sl1 mineM) fullShare.right (msg1 m c)) rfl) $$ [P10 HO]
  · isplitr; · iexact HR
    isplitl [P10]; · iexact P10
    iexact HO
  iintro ⟨F10, M1b, HO⟩
  try dsimp only
  iapply (step_wait m K c 11 (src := (sq (sl0 dM))) (dst := (sq (sl0 lM))) (sem := sS4) rfl rfl 0 3 (above_zero 3) (by decide) (P := own c (sl0 lM) fullShare.left (msg0 m (lft c))) rfl) $$ [P11 HO]
  · isplitr; · iexact HR
    isplitl [P11]; · iexact P11
    iexact HO
  iintro ⟨F11, L0a, HO⟩
  try dsimp only
  iapply (step_wait m K c 12 (src := (sq (sl1 dM))) (dst := (sq (sl1 rM))) (sem := sS5) rfl rfl 0 3 (above_zero 3) (by decide) (P := own c (sl1 rM) fullShare.left (msg1 m (rgt c))) rfl) $$ [P12 HO]
  · isplitr; · iexact HR
    isplitl [P12]; · iexact P12
    iexact HO
  iintro ⟨F12, R1a, HO⟩
  try dsimp only
  iapply (wp_done c _)
  iapply Hk
  isplitl [HO]; · iexact HO
  isplitl [F0 F1 F2 F3 F4 F5 F6 F7 F8 F9 F10 F11 F12 F13 F14 F15 F16 F17 F18]
  · unfold fins
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [F11]; · iexact F11
    isplitl [F12]; · iexact F12
    isplitl [F13]; · iexact F13
    isplitl [F14]; · iexact F14
    isplitl [F15]; · iexact F15
    isplitl [F16]; · iexact F16
    isplitl [F17]; · iexact F17
    iexact F18
  isplitl [ZB]; · iexact ZB
  isplitl [S0 S1 S2 S3 S4]
  · isplitl [S0]; · iexact S0
    isplitl [S1]; · iexact S1
    isplitl [S2]; · iexact S2
    isplitl [S3]; · iexact S3
    iexact S4
  isplitl [D0 D1 D2 D3 D4 O0 O1 M0a M0b M1a M1b L0a L0 L1 R0 R1a R1 E0 E1]
  · isplitl [D0]
    · iapply (own_room c xM _); iexact D0
    isplitl [D1]
    · iapply (own_room c wqM _); iexact D1
    isplitl [D2]
    · iapply (own_room c woM _); iexact D2
    isplitl [D3]
    · iapply (own_room c wkM _); iexact D3
    isplitl [D4]
    · iapply (own_room c wvM _); iexact D4
    isplitl [O0]
    · iapply (own_room c (sl0 oM) _); iexact O0
    isplitl [O1]
    · iapply (own_room c (sl1 oM) _); iexact O1
    isplitl [M0a M0b]
    · iapply (own_room c (sl0 mineM) _); iapply (own_rejoin c (sl0 mineM) _); isplitl [M0a]; · iexact M0a
      iexact M0b
    isplitl [M1a M1b]
    · iapply (own_room c (sl1 mineM) _); iapply (own_rejoin c (sl1 mineM) _); isplitl [M1a]; · iexact M1a
      iexact M1b
    isplitl [L0a L0]
    · iapply (own_room c (sl0 lM) _); iapply (own_rejoin c (sl0 lM) _); isplitl [L0a]; · iexact L0a
      iexact L0
    isplitl [L1]
    · iapply (own_room c (sl1 lM) _); iexact L1
    isplitl [R0]
    · iapply (own_room c (sl0 rM) _); iexact R0
    isplitl [R1a R1]
    · iapply (own_room c (sl1 rM) _); iapply (own_rejoin c (sl1 rM) _); isplitl [R1a]; · iexact R1a
      iexact R1
    isplitl [E0]
    · iapply (own_room c (sl0 dM) _); iexact E0
    iapply (own_room c (sl1 dM) _); iexact E1
  isplitl [OH0]; · iexact OH0
  iexact OH1

end Cert.KernelIdeal.Hand
-- ==== Proof.Edges.lean ====
/-
Between whole buffers, which the launch deals, and the rows and columns the body works on.
-/
module

public import proofs.«01_k».proof.Proof.Body

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows of a `[2,128,512]` memref -/

theorem mem_row0 (i : S2x128x512.Idx) :
    i ∈ (Rect.unit (s := S2x128x512) ![0, 0, 0] S1x128x512.size inb_S2x128x512_S1x128x512_0_0_0).set ↔ (i 0).val = 0 := by
  rw [Rect.mem_set_unit]
  constructor
  · intro h
    have h' : (i 0).val < 0 + 1 := (h 0).2
    omega
  · intro h
    show ∀ k : Fin 3, _
    intro k
    have h1 : (i 1).val < 128 := (i 1).isLt
    have h2 : (i 2).val < 512 := (i 2).isLt
    match k with
    | 0 => exact ⟨Nat.zero_le _, show (i 0).val < 0 + 1 by omega⟩
    | 1 => exact ⟨Nat.zero_le _, show (i 1).val < 0 + 128 by omega⟩
    | 2 => exact ⟨Nat.zero_le _, show (i 2).val < 0 + 512 by omega⟩

theorem mem_row1 (i : S2x128x512.Idx) :
    i ∈ (Rect.unit (s := S2x128x512) ![1, 0, 0] S1x128x512.size inb_S2x128x512_S1x128x512_1_0_0).set ↔ (i 0).val = 1 := by
  have h0 : (i 0).val < 2 := (i 0).isLt
  rw [Rect.mem_set_unit]
  constructor
  · intro h
    have h' : 1 ≤ (i 0).val := (h 0).1
    omega
  · intro h
    show ∀ k : Fin 3, _
    intro k
    have h1 : (i 1).val < 128 := (i 1).isLt
    have h2 : (i 2).val < 512 := (i 2).isLt
    match k with
    | 0 => exact ⟨show 1 ≤ (i 0).val by omega, show (i 0).val < 1 + 1 by omega⟩
    | 1 => exact ⟨Nat.zero_le _, show (i 1).val < 0 + 128 by omega⟩
    | 2 => exact ⟨Nat.zero_le _, show (i 2).val < 0 + 512 by omega⟩

theorem rows_disjoint {sp : Space} {e : EltTy} (a : Memref sig .tc sp S2x128x512 e) : Disjoint (sl0 a).view.set (sl1 a).view.set := by
  rw [show (sl0 a).view.set = _ from View.set_slice _ _, show (sl1 a).view.set = _ from View.set_slice _ _, Finset.disjoint_map,
    Finset.disjoint_left]
  intro i h0 h1
  have h0' := (mem_row0 i).mp h0
  have h1' := (mem_row1 i).mp h1
  omega

theorem rows_union {sp : Space} {e : EltTy} (a : Memref sig .tc sp S2x128x512 e) : (sl0 a).view.set ∪ (sl1 a).view.set = a.view.set := by
  rw [show (sl0 a).view.set = _ from View.set_slice _ _, show (sl1 a).view.set = _ from View.set_slice _ _, ← Finset.map_union]
  refine congrArg (Finset.map a.view.emb) (Finset.eq_univ_iff_forall.mpr fun i => Finset.mem_union.mpr ?_)
  have hb0 : (i 0).val < 2 := (i 0).isLt
  rcases (show (i 0).val = 0 ∨ (i 0).val = 1 by omega) with h | h
  · exact Or.inl ((mem_row0 i).mpr h)
  · exact Or.inr ((mem_row1 i).mpr h)

theorem rows_split {sp : Space} {e : EltTy} (c : Dev nD) (a : Memref sig .tc sp S2x128x512 e) :
    (room c a : sProp 𝕄) ⊢ iprop(room c (sl0 a) ∗ room c (sl1 a)) := by
  unfold room
  iintro ⟨%f, H⟩
  rw [← rows_union a]
  ihave H' := (pointsTo_union (rows_disjoint a)).1 $$ H
  icases H' with ⟨H0, H1⟩
  isplitl [H0]
  · iexists f; iexact H0
  · iexists f; iexact H1

/-- Two rows at their contents are the memref at some contents that read so. -/
theorem rows_own {sp : Space} {e : EltTy} (c : Dev nD) (a : Memref sig .tc sp S2x128x512 e) (X Y : S1x128x512.Idx → Elt F e) :
    iprop(own c (sl0 a) fullShare X ∗ own c (sl1 a) fullShare Y)
      ⊢ (iprop(∃ f : a.view.ty.Contents (Elt F), ⌜(sl0 a).view.read (Elt F) f = X ∧ (sl1 a).view.read (Elt F) f = Y⌝ ∗ a.view.loc (c : Thread nD τ) ↦[a.view.set]{fullShare} f) : sProp 𝕄) := by
  unfold own owns
  iintro ⟨⟨%f, %hf, H0⟩, ⟨%g, %hg, H1⟩⟩
  ihave H := (pointsTo_join (ℓ := a.view.loc (c : Thread nD τ)) (I := (sl0 a).view.set) (J := (sl1 a).view.set) (rows_disjoint a)) $$ [H0 H1]
  · isplitl [H0]
    · iexact H0
    · iexact H1
  rw [rows_union a]
  iexists _
  isplitr
  rotate_left
  · iexact H
  · ipureintro
    refine ⟨?_, ?_⟩
    · rw [← hf]
      refine funext fun i => View.read_congr_at _ ?_
      exact Finset.piecewise_eq_of_notMem _ _ _ (Finset.disjoint_left.mp (rows_disjoint a) (View.emb_mem_set _ i))
    · rw [← hg]
      refine funext fun i => View.read_congr_at _ ?_
      exact Finset.piecewise_eq_of_mem _ _ _ (View.emb_mem_set _ i)

theorem rows_join {sp : Space} {e : EltTy} (c : Dev nD) (a : Memref sig .tc sp S2x128x512 e) :
    iprop(room c (sl0 a) ∗ room c (sl1 a)) ⊢ (room c a : sProp 𝕄) := by
  unfold room
  iintro ⟨⟨%f, H0⟩, ⟨%g, H1⟩⟩
  ihave H := (pointsTo_join (ℓ := a.view.loc (c : Thread nD τ)) (I := (sl0 a).view.set) (J := (sl1 a).view.set) (rows_disjoint a)) $$ [H0 H1]
  · isplitl [H0]
    · iexact H0
    · iexact H1
  rw [rows_union a]
  iexists _
  iexact H

/-! ## Whole buffers -/

theorem room_whole (c : Dev nD) (b : Ref sig .tc) :
    (room c (Memref.whole b) : sProp 𝕄) = iprop(∃ f : Buf (Elt F) ((c : Thread nD τ).loc b), ((c : Thread nD τ).loc b) ↦{fullShare} f) := by
  unfold room
  simp only [Memref.view_whole, View.set_whole]

theorem own_whole (c : Dev nD) (b : Ref sig .tc) (f : b.ty.Contents (Elt F)) :
    (own c (Memref.whole b) fullShare f : sProp 𝕄) = (((c : Thread nD τ).loc b) ↦{fullShare} f) := owns_whole (c : Thread nD τ) b fullShare f

/-- The ten scratch buffers, whole. -/
def scrs (c : Dev nD) : sProp 𝕄 :=
  iprop(room (F := F) c xM ∗ room c wqM ∗ room c woM ∗ room c wkM ∗ room c wvM ∗ room c oM ∗ room c mineM ∗ room c lM ∗ room c rM ∗ room c dM)

theorem scrs_eq (c : Dev nD) : (Pipeline.scopedRest (Ix := Unit) (Name := ℕ) (U := UU) (Lvl := ℕ) (Val := Elt F) cfg0.spec c : sProp 𝕄) = scrs c := by
  rw [scopedRest0_eq]
  unfold scrs
  rw [room_whole, room_whole, room_whole, room_whole, room_whole, room_whole, room_whole, room_whole, room_whole, room_whole]

theorem scrs_split (c : Dev nD) : (scrs c : sProp 𝕄) ⊢ scratch c := by
  unfold scrs scratch
  iintro ⟨D0, D1, D2, D3, D4, O, M, L, R, E⟩
  ihave O' := (rows_split c oM) $$ O
  icases O' with ⟨O0, O1⟩
  ihave M' := (rows_split c mineM) $$ M
  icases M' with ⟨M0, M1⟩
  ihave L' := (rows_split c lM) $$ L
  icases L' with ⟨L0, L1⟩
  ihave R' := (rows_split c rM) $$ R
  icases R' with ⟨R0, R1⟩
  ihave E' := (rows_split c dM) $$ E
  icases E' with ⟨E0, E1⟩
  isplitl [D0]; · iexact D0
  isplitl [D1]; · iexact D1
  isplitl [D2]; · iexact D2
  isplitl [D3]; · iexact D3
  isplitl [D4]; · iexact D4
  isplitl [O0]; · iexact O0
  isplitl [O1]; · iexact O1
  isplitl [M0]; · iexact M0
  isplitl [M1]; · iexact M1
  isplitl [L0]; · iexact L0
  isplitl [L1]; · iexact L1
  isplitl [R0]; · iexact R0
  isplitl [R1]; · iexact R1
  isplitl [E0]; · iexact E0
  iexact E1

theorem scrs_join (c : Dev nD) : (scratch c : sProp 𝕄) ⊢ scrs c := by
  unfold scrs scratch
  iintro ⟨D0, D1, D2, D3, D4, O0, O1, M0, M1, L0, L1, R0, R1, E0, E1⟩
  ihave O := (rows_join c oM) $$ [O0 O1]
  · isplitl [O0]
    · iexact O0
    · iexact O1
  ihave M := (rows_join c mineM) $$ [M0 M1]
  · isplitl [M0]
    · iexact M0
    · iexact M1
  ihave L := (rows_join c lM) $$ [L0 L1]
  · isplitl [L0]
    · iexact L0
    · iexact L1
  ihave R := (rows_join c rM) $$ [R0 R1]
  · isplitl [R0]
    · iexact R0
    · iexact R1
  ihave E := (rows_join c dM) $$ [E0 E1]
  · isplitl [E0]
    · iexact E0
    · iexact E1
  isplitl [D0]; · iexact D0
  isplitl [D1]; · iexact D1
  isplitl [D2]; · iexact D2
  isplitl [D3]; · iexact D3
  isplitl [D4]; · iexact D4
  isplitl [O]; · iexact O
  isplitl [M]; · iexact M
  isplitl [L]; · iexact L
  isplitl [R]; · iexact R
  iexact E

/-! ## The columns of a `[512,512]` operand -/

/-- The other devices' columns of operand `b`, at the launch contents. -/
def rest2 (c : Dev nD) : sProp 𝕄 :=
  wkH.view.loc (c : Thread nD τ) ↦[wkH.view.set \ (colM wkH c).view.set]{fullShare} (m ((c : Thread nD τ).loc main_arg2))
def rest3 (c : Dev nD) : sProp 𝕄 :=
  wvH.view.loc (c : Thread nD τ) ↦[wvH.view.set \ (colM wvH c).view.set]{fullShare} (m ((c : Thread nD τ).loc main_arg3))

theorem cols2_split (c : Dev nD) : ((((c : Thread nD τ).loc main_arg2) ↦{fullShare} m ((c : Thread nD τ).loc main_arg2)) : sProp 𝕄)
    ⊢ iprop(own c (colM wkH c) fullShare (wkV m c) ∗ rest2 m c) := by
  have hs : (colM wkH c).view.set ⊆ wkH.view.set := View.set_slice_subset _ _
  have hu : (wkH.view.set : Finset _) = Finset.univ := View.set_whole _
  unfold rest2
  rw [hu] at hs ⊢
  iintro H
  ihave H' := (pointsTo_split_subset hs).1 $$ H
  icases H' with ⟨H0, H1⟩
  isplitl [H0]
  · iapply (own_of c (colM wkH c) fullShare (f := m ((c : Thread nD τ).loc main_arg2)) rfl) $$ H0
  · iexact H1

theorem cols2_join (c : Dev nD) : iprop(own c (colM wkH c) fullShare (wkV m c) ∗ rest2 m c)
    ⊢ ((((c : Thread nD τ).loc main_arg2) ↦{fullShare} m ((c : Thread nD τ).loc main_arg2)) : sProp 𝕄) := by
  have hs : (colM wkH c).view.set ⊆ wkH.view.set := View.set_slice_subset _ _
  have hu : (wkH.view.set : Finset _) = Finset.univ := View.set_whole _
  unfold rest2 own owns
  rw [hu] at hs ⊢
  iintro ⟨⟨%g, %hg, H0⟩, H1⟩
  have he : ∀ i ∈ (colM wkH c).view.set, g i = m ((c : Thread nD τ).loc main_arg2) i := by
    intro i hi
    obtain ⟨x, -, rfl⟩ := Finset.mem_map.mp hi
    exact congrFun hg x
  ihave H0' := (Entails.of_eq (pointsTo_congr (ℓ := wkH.view.loc (c : Thread nD τ)) he)) $$ H0
  ihave H := (pointsTo_split_subset (ℓ := wkH.view.loc (c : Thread nD τ)) hs).2 $$ [H0' H1]
  · isplitl [H0']
    · iexact H0'
    · iexact H1
  iexact H

theorem cols3_split (c : Dev nD) : ((((c : Thread nD τ).loc main_arg3) ↦{fullShare} m ((c : Thread nD τ).loc main_arg3)) : sProp 𝕄)
    ⊢ iprop(own c (colM wvH c) fullShare (wvV m c) ∗ rest3 m c) := by
  have hs : (colM wvH c).view.set ⊆ wvH.view.set := View.set_slice_subset _ _
  have hu : (wvH.view.set : Finset _) = Finset.univ := View.set_whole _
  unfold rest3
  rw [hu] at hs ⊢
  iintro H
  ihave H' := (pointsTo_split_subset hs).1 $$ H
  icases H' with ⟨H0, H1⟩
  isplitl [H0]
  · iapply (own_of c (colM wvH c) fullShare (f := m ((c : Thread nD τ).loc main_arg3)) rfl) $$ H0
  · iexact H1

theorem cols3_join (c : Dev nD) : iprop(own c (colM wvH c) fullShare (wvV m c) ∗ rest3 m c)
    ⊢ ((((c : Thread nD τ).loc main_arg3) ↦{fullShare} m ((c : Thread nD τ).loc main_arg3)) : sProp 𝕄) := by
  have hs : (colM wvH c).view.set ⊆ wvH.view.set := View.set_slice_subset _ _
  have hu : (wvH.view.set : Finset _) = Finset.univ := View.set_whole _
  unfold rest3 own owns
  rw [hu] at hs ⊢
  iintro ⟨⟨%g, %hg, H0⟩, H1⟩
  have he : ∀ i ∈ (colM wvH c).view.set, g i = m ((c : Thread nD τ).loc main_arg3) i := by
    intro i hi
    obtain ⟨x, -, rfl⟩ := Finset.mem_map.mp hi
    exact congrFun hg x
  ihave H0' := (Entails.of_eq (pointsTo_congr (ℓ := wvH.view.loc (c : Thread nD τ)) he)) $$ H0
  ihave H := (pointsTo_split_subset (ℓ := wvH.view.loc (c : Thread nD τ)) hs).2 $$ [H0' H1]
  · isplitl [H0']
    · iexact H0'
    · iexact H1
  iexact H

/-! ## The operands and the result, whole -/

/-- The five operands, whole, at their launch contents. -/
def args (c : Dev nD) : sProp 𝕄 := iprop((((c : Thread nD τ).loc main_arg0) ↦{fullShare} m ((c : Thread nD τ).loc main_arg0)) ∗ (((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_arg4) ↦{fullShare} m ((c : Thread nD τ).loc main_arg4)))
/-- The result buffer at contents whose two rows are `res0` and `res1`. -/
def result (c : Dev nD) : sProp 𝕄 :=
  iprop(∃ f : Buf (Elt F) ((c : Thread nD τ).loc main_v1), ⌜(sl0 oH).view.read (Elt F) f = res0 m c ∧ (sl1 oH).view.read (Elt F) f = res1 m c⌝
    ∗ ((c : Thread nD τ).loc main_v1) ↦{fullShare} f)

theorem args_split (c : Dev nD) : (args m c : sProp 𝕄) ⊢ iprop(operands m c ∗ rest2 m c ∗ rest3 m c) := by
  unfold args operands
  iintro ⟨A0, A1, A2, A3, A4⟩
  ihave A2' := (cols2_split m c) $$ A2
  icases A2' with ⟨A2, R2⟩
  ihave A3' := (cols3_split m c) $$ A3
  icases A3' with ⟨A3, R3⟩
  rw [own_whole, own_whole, own_whole]
  isplitl [A0 A1 A2 A3 A4]
  · isplitl [A0]; · iexact A0
    isplitl [A1]; · iexact A1
    isplitl [A4]; · iexact A4
    isplitl [A2]; · iexact A2
    iexact A3
  isplitl [R2]; · iexact R2
  iexact R3

theorem args_join (c : Dev nD) : iprop(operands m c ∗ rest2 m c ∗ rest3 m c) ⊢ (args m c : sProp 𝕄) := by
  unfold args operands
  rw [own_whole, own_whole, own_whole]
  iintro ⟨⟨A0, A1, A4, A2, A3⟩, R2, R3⟩
  ihave A2' := (cols2_join m c) $$ [A2 R2]
  · isplitl [A2]
    · iexact A2
    · iexact R2
  ihave A3' := (cols3_join m c) $$ [A3 R3]
  · isplitl [A3]
    · iexact A3
    · iexact R3
  isplitl [A0]; · iexact A0
  isplitl [A1]; · iexact A1
  isplitl [A2']; · iexact A2'
  isplitl [A3']; · iexact A3'
  iexact A4

theorem result_of_rows (c : Dev nD) : iprop(own c (sl0 oH) fullShare (res0 m c) ∗ own c (sl1 oH) fullShare (res1 m c)) ⊢ (result m c : sProp 𝕄) := by
  refine (rows_own c oH (res0 m c) (res1 m c)).trans ?_
  unfold result
  iintro ⟨%f, %hf, H⟩
  iexists f
  isplitr; · ipureintro; exact hf
  rw [show (oH.view.set : Finset _) = Finset.univ from View.set_whole _]
  iexact H

end Cert.KernelIdeal.Hand
-- ==== Proof.Launch.lean ====
/-
The launch: what the runtime deals the four devices, regrouped into what each body starts from, and the run of the whole
program.
-/
module

public import Idealize.ShloMosaic.Lib.Pipeline.CollectiveSegs
public import proofs.«01_k».proof.Proof.Edges
public import proofs.«01_k».proof.Proof.Gen.KernelIdeal.Points

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The proof data -/

/-- What each device starts from but its scratch buffers. -/
def start (c : Dev nD) : sProp 𝕄 :=
  iprop((∃ K, recs m K) ∗ idles c ∗ pends c ∗ toks c ∗ bars c ∗ args m c ∗ room c oH)

def Φ₀ (c : Dev nD) : sProp 𝕄 := iprop(start m c ∗ scrs c)
/-- After the body: operands unchanged, the result written, every cell closed. -/
def Φ₁ (c : Dev nD) : sProp 𝕄 := iprop((args m c ∗ result m c) ∗ fins c ∗ semVal (barCell c) 0 ∗ scrs c)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body between the two. -/
theorem body_whole (c : Dev nD) : iprop(Φ₀ m c ∗ ow c (O₀ c))
    ⊢ WP c (bodyAt0 (F := F) t0_0) (fun _ => iprop(Φ₁ m c ∗ ow c 0)) := by
  unfold Φ₀ start
  iintro ⟨⟨⟨⟨%K, HR⟩, HI, HP, HT, HB, HA, HO⟩, HS⟩, HW⟩
  ihave HA' := (args_split m c) $$ HA
  icases HA' with ⟨HA, R2, R3⟩
  ihave HS' := (scrs_split c) $$ HS
  ihave HO' := (rows_split c oH) $$ HO
  icases HO' with ⟨O0, O1⟩
  iapply (body_run m K c) $$ [HR HW HI HP HT HB HA HS' O0 O1]
  · isplitl [HR]; · iexact HR
    isplitl [HW]; · iexact HW
    isplitl [HI]; · iexact HI
    isplitl [HP]; · iexact HP
    isplitl [HT]; · iexact HT
    isplitl [HB]; · iexact HB
    isplitl [HA]; · iexact HA
    isplitl [HS']; · iexact HS'
    isplitl [O0]; · iexact O0
    iexact O1
  iintro ⟨HW, HF, HV, HA, HS, O0, O1⟩
  unfold Φ₁
  isplitr [HW]
  · isplitl [HA R2 R3 O0 O1]
    · isplitl [HA R2 R3]
      · iapply (args_join m c)
        isplitl [HA]; · iexact HA
        isplitl [R2]; · iexact R2
        iexact R3
      · iapply (result_of_rows m c)
        isplitl [O0]; · iexact O0
        iexact O1
    isplitl [HF]; · iexact HF
    isplitl [HV]; · iexact HV
    iapply (scrs_join c) $$ HS
  · iexact HW

theorem bigSep_none (Φ : Fin 0 → sProp 𝕄) : bigSep Finset.univ Φ = iprop(emp) := by
  rw [Finset.univ_eq_empty]; exact bigSep_empty

/-- The library's body obligation on device `c`. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(emp) from bigSep_none,
    show ∀ Φ : Fin cfg0.W → sProp 𝕄, bigSep Finset.univ Φ = iprop(emp) from bigSep_none]
  show iprop(Φ₀ m c ∗ (dats m 0 c).owesAt () (t0_0 : Fin cfg0.N).castSucc ∗ emp) ⊢ WP c (bodyAt0 (F := F) t0_0)
    (fun _ => iprop(Φ₁ m c ∗ (dats m 0 c).owesAt () (t0_0 : Fin cfg0.N).succ ∗ emp))
  unfold Dat.owesAt Pipeline.owesWithin
  iintro ⟨HΦ, ⟨%W, -, HO⟩, -⟩
  iapply (wp_wand frame (wpE (defs₀ (F := F)) 𝒱₀ (c : Thread nD τ) none) Set.univ) $$ [HΦ HO]
  · iapply (body_whole m c)
    isplitl [HΦ]; · iexact HΦ
    unfold ow
    iexists W
    iexact HO
  · iintro %u ⟨HΦ, HW⟩
    unfold ow
    icases HW with ⟨%W', HO⟩
    isplitl [HΦ]; · iexact HΦ
    isplitl [HO]
    · iexists W'
      isplitr; · ipureintro; exact fun _ _ => Or.inl trivial
      iexact HO
    · iempintro

/-! ## What the launch deals -/

/-- The kernel's own semaphores: its nineteen DMA semaphores. -/
abbrev osem : Fin 19 → SemLoc sig := fun q => .dma q

theorem ownSemFacts : Pipeline.OwnSemFacts cfg0.spec osem := by decide

theorem csem_inj : Function.Injective csem := by decide

theorem kcell_injective : Function.Injective (kcell : Dev nD × Fin 20 → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

/-- A device's duties: one on each of its DMA cells, the two on its barrier cell. -/
def tsem (j : Fin 21) : SemLoc sig × Bool := if h : j.val < 19 then (.dma ⟨j.val, h⟩, false) else (.reg barS, decide (j = 20))
abbrev tokOf (cj : Dev nD × Fin 21) : GSem nD τ sig × ℕ × Bool := (((cj.1 : Thread nD τ), (tsem cj.2).1), 0, (tsem cj.2).2)

theorem tsem_inj : Function.Injective tsem := by decide

theorem tokOf_injective : Function.Injective (tokOf : Dev nD × Fin 21 → GSem nD τ sig × ℕ × Bool) := by
  rintro ⟨c, j⟩ ⟨c', j'⟩ h
  have h1 : c = c' := congrArg (fun x : GSem nD τ sig × ℕ × Bool => x.1.1.1) h
  have h2 : j = j' := tsem_inj (congrArg (fun x : GSem nD τ sig × ℕ × Bool => (x.1.2, x.2.2)) h)
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- Which way a duty's token travels from the device whose cell it is to the device that pays it. -/
def shift (j : Fin 21) : Dev nD ≃ Dev nD :=
  if j.val < 13 then Equiv.refl _ else if j = 13 ∨ j = 15 ∨ j = 17 ∨ j = 19 then ring else ring.symm
/-- Each duty's token with its payer. -/
def around : Dev nD × Fin 21 ≃ Dev nD × Fin 21 where
  toFun x := (shift x.2 x.1, x.2)
  invFun x := ((shift x.2).symm x.1, x.2)
  left_inv x := by simp
  right_inv x := by simp

/-- The tokens of the duties device `c` pays. -/
def payToks (c : Dev nD) : sProp 𝕄 :=
  iprop(dutyTok ER (dCell c 0) 0 false ∗ dutyTok ER (dCell c 1) 0 false ∗ dutyTok ER (dCell c 2) 0 false ∗ dutyTok ER (dCell c 3) 0 false ∗ dutyTok ER (dCell c 4) 0 false ∗ dutyTok ER (dCell c 5) 0 false ∗ dutyTok ER (dCell c 6) 0 false ∗ dutyTok ER (dCell c 7) 0 false ∗ dutyTok ER (dCell c 8) 0 false ∗ dutyTok ER (dCell c 9) 0 false ∗ dutyTok ER (dCell c 10) 0 false ∗ dutyTok ER (dCell c 11) 0 false ∗ dutyTok ER (dCell c 12) 0 false ∗ dutyTok ER (dCell (rgt c) 13) 0 false ∗ dutyTok ER (dCell (lft c) 14) 0 false ∗ dutyTok ER (dCell (rgt c) 15) 0 false ∗ dutyTok ER (dCell (lft c) 16) 0 false ∗ dutyTok ER (dCell (rgt c) 17) 0 false ∗ dutyTok ER (dCell (lft c) 18) 0 false ∗ dutyTok ER (barCell (rgt c)) 0 false ∗ dutyTok ER (barCell (lft c)) 0 true)
/-- The positions at device `c`'s cells. -/
def poss (c : Dev nD) : sProp 𝕄 :=
  iprop(atPos ER (dCell c 0) 0 ∅ 0 ∗ atPos ER (dCell c 1) 0 ∅ 0 ∗ atPos ER (dCell c 2) 0 ∅ 0 ∗ atPos ER (dCell c 3) 0 ∅ 0 ∗ atPos ER (dCell c 4) 0 ∅ 0 ∗ atPos ER (dCell c 5) 0 ∅ 0 ∗ atPos ER (dCell c 6) 0 ∅ 0 ∗ atPos ER (dCell c 7) 0 ∅ 0 ∗ atPos ER (dCell c 8) 0 ∅ 0 ∗ atPos ER (dCell c 9) 0 ∅ 0 ∗ atPos ER (dCell c 10) 0 ∅ 0 ∗ atPos ER (dCell c 11) 0 ∅ 0 ∗ atPos ER (dCell c 12) 0 ∅ 0 ∗ atPos ER (dCell c 13) 0 ∅ 0 ∗ atPos ER (dCell c 14) 0 ∅ 0 ∗ atPos ER (dCell c 15) 0 ∅ 0 ∗ atPos ER (dCell c 16) 0 ∅ 0 ∗ atPos ER (dCell c 17) 0 ∅ 0 ∗ atPos ER (dCell c 18) 0 ∅ 0 ∗ atPos ER (barCell c) 0 ∅ 0)

theorem payToks_eq (c : Dev nD) :
    (bigSep Finset.univ fun j : Fin 21 => (dutyTok ER (tokOf (around (c, j))).1 (tokOf (around (c, j))).2.1 (tokOf (around (c, j))).2.2 : sProp 𝕄)) = payToks c := by
  rw [bigSep_univ_eq_bigSepL [0, 1, 2, 3, 4, 5, 6, 7, 8, 9, 10, 11, 12, 13, 14, 15, 16, 17, 18, 19, 20] (by decide) (by decide)]; rfl
theorem poss_eq (c : Dev nD) : (bigSep Finset.univ fun k : Fin 20 => (atPos ER (kcell (c, k)) 0 ∅ 0 : sProp 𝕄)) = poss c := by
  rw [bigSep_univ_eq_bigSepL [0, 1, 2, 3, 4, 5, 6, 7, 8, 9, 10, 11, 12, 13, 14, 15, 16, 17, 18, 19] (by decide) (by decide)]; rfl

/-- What the launch element deals device `c`. -/
def G (c : Dev nD) : sProp 𝕄 :=
  iprop((bigSep Finset.univ fun k : Fin 20 => roundState ER (Rd m) (kcell (c, k)) 0)
    ∗ (bigSep Finset.univ fun k : Fin 20 => reached ER (kcell (c, k)) 0) ∗ poss c ∗ payToks c)

/-- The records but for the levels. -/
def recs₀ (K : Dev nD × Fin 20 → ℕ) : sProp 𝕄 :=
  iprop((bigSep Finset.univ fun ck : Dev nD × Fin 20 => cellInv ER (Rd m) (K ck) (kcell ck))
    ∗ (bigSep Finset.univ fun ck : Dev nD × Fin 20 => reached ER (kcell ck) 0))
instance recs₀_persistent (K : Dev nD × Fin 20 → ℕ) : BI.Persistent (recs₀ m K) := by unfold recs₀; infer_instance

/-- What the global step makes of it. -/
def G' (c : Dev nD) : sProp 𝕄 := iprop((∃ K, recs₀ m K) ∗ poss c ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 20 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_equiv around, bigSep_univ_prod]
    exact bigSep_congr fun c _ => payToks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq ((hX fun g => atPos ER g 0 ∅ 0).trans (bigSep_congr fun c _ => poss_eq c))) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem ownSems0_eq (c : Dev nD) : (Pipeline.ownSems0 (Ix := Unit) (Name := ℕ) (U := UU) (Lvl := ℕ) (Val := Elt F) (τ := τ) osem c : sProp 𝕄) = fins c := by
  rw [Pipeline.ownSems0_eq_of_list c osem [0, 1, 2, 3, 4, 5, 6, 7, 8, 9, 10, 11, 12, 13, 14, 15, 16, 17, 18] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem kcells_eq (c : Dev nD) : (bigSep Finset.univ fun k : Fin 20 => (semVal (kcell (c, k)) 0 : sProp 𝕄))
    = iprop(fin c 0 ∗ fin c 1 ∗ fin c 2 ∗ fin c 3 ∗ fin c 4 ∗ fin c 5 ∗ fin c 6 ∗ fin c 7 ∗ fin c 8 ∗ fin c 9 ∗ fin c 10 ∗ fin c 11 ∗ fin c 12 ∗ fin c 13 ∗ fin c 14 ∗ fin c 15 ∗ fin c 16 ∗ fin c 17 ∗ fin c 18 ∗ semVal (barCell c) 0) := by
  rw [bigSep_univ_eq_bigSepL [0, 1, 2, 3, 4, 5, 6, 7, 8, 9, 10, 11, 12, 13, 14, 15, 16, 17, 18, 19] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 20 => semVal (kcell (c, k)) 0 : sProp 𝕄) := by
  rw [ownSems0_eq, unscopedSems0_eq, kcells_eq]
  unfold fins
  iintro ⟨⟨H0, H1, H2, H3, H4, H5, H6, H7, H8, H9, H10, H11, H12, H13, H14, H15, H16, H17, H18⟩, HB⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact HB

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 20 => reached ER (kcell (c, k)) 0) ∗ poss c ∗ payToks c) := by
  unfold G
  iintro ⟨Hos, Hus, Hst, Hr, Hat, Htok⟩
  ihave Hv := (sems0 (F := F) c) $$ [Hos Hus]
  · isplitl [Hos] <;> iassumption
  imod (show iprop((bigSep Finset.univ fun k : Fin 20 => semVal (kcell (c, k)) 0) ∗ bigSep Finset.univ fun k : Fin 20 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 20 => reached ER (kcell (c, k)) 0) ∗ poss c ∗ payToks c) : sProp 𝕄)
      ⊢ bigSep Finset.univ (G' m) := by
  rw [bigSep_sep', bigSep_sep', ← bigSep_univ_prod (fun ck : Dev nD × Fin 20 => iprop(∃ κ : ℕ, cellInv ER (Rd m) κ (kcell ck))),
    ← bigSep_univ_prod (fun ck : Dev nD × Fin 20 => (reached ER (kcell ck) 0 : sProp 𝕄))]
  iintro ⟨HI, #HR, Hrest⟩
  ihave HK := (BI.bigSep_exists_pi Finset.univ (fun (ck : Dev nD × Fin 20) (κ : ℕ) => (cellInv ER (Rd m) κ (kcell ck) : sProp 𝕄))) $$ HI
  icases HK with ⟨%K, #HI⟩
  iapply (with_records (R := recs₀ m K) (Φ := fun c : Dev nD => iprop(poss c ∗ payToks c)) fun c _ => by
    unfold G'
    iintro ⟨HR, HP, HT⟩
    isplitl [HR]
    · iexists K; iexact HR
    isplitl [HP]; · iexact HP
    iexact HT)
  isplitr
  · unfold recs₀; isplitl
    · iexact HI
    · iexact HR
  · iexact Hrest

/-- Every device's semaphores become its cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq_iff {sm sm' : SemLoc sig} {a b : Dev nD} :
    ((((a : Thread nD τ), sm) : GSem nD τ sig) = ((b : Thread nD τ), sm')) ↔ a = b ∧ sm = sm' :=
  ⟨fun h => ⟨congrArg (fun g : GSem nD τ sig => g.1.1) h, congrArg Prod.snd h⟩, fun ⟨h, h'⟩ => by rw [h, h']⟩

theorem eq_lft_iff (c d : Dev nD) : c = lft d ↔ d = rgt c := by revert c d; decide
theorem eq_rgt_iff (c d : Dev nD) : c = rgt d ↔ d = lft c := by revert c d; decide

/-- What device `d` owes device `c`'s cell `sm`, summand by summand. -/
theorem owed_eq (d c : Dev nD) (sm : SemLoc sig) : O₀ d ((c : Thread nD τ), sm) () =
    0 + (if d = rgt c ∧ sm = .dma 18 then amt 18 else 0) + (if d = lft c ∧ sm = .dma 17 then amt 17 else 0)
      + (if d = rgt c ∧ sm = .dma 16 then amt 16 else 0) + (if d = lft c ∧ sm = .dma 15 then amt 15 else 0)
      + (if d = rgt c ∧ sm = .dma 14 then amt 14 else 0) + (if d = lft c ∧ sm = .dma 13 then amt 13 else 0)
      + (if d = lft c ∧ sm = .reg barS then 1 else 0) + (if d = rgt c ∧ sm = .reg barS then 1 else 0) := by
  unfold O₀ Ow7 Ow6 Ow5 Ow4 Ow3 Ow2 Ow1
  simp only [Pi.add_apply, Finsupp.add_apply, tallyAt_apply, cell_eq_iff, and_true, Pi.zero_apply, Finsupp.zero_apply, eq_lft_iff c d, eq_rgt_iff c d]

/-- The launch credit of device `c`'s cell `sm`. -/
theorem launch_cell (c : Dev nD) (sm : SemLoc sig) (n : ℕ) (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem sum_bar (c : Dev nD) : (∑ d : Dev nD, O₀ d (barCell c) ()) = 2 := by
  simp only [owed_eq, reduceCtorEq, and_false, if_false, and_true, Nat.zero_add, Finset.sum_add_distrib,
    Finset.sum_ite_eq', Finset.mem_univ, if_true]
theorem sum_13 (c : Dev nD) : (∑ d : Dev nD, O₀ d (dCell c 13) ()) = amt 13 := by
  rw [Finset.sum_congr rfl (g := fun d => if d = lft c then amt 13 else 0) fun d _ => by
    rw [owed_eq]; simp]
  rw [Finset.sum_ite_eq', if_pos (Finset.mem_univ _)]
theorem sum_14 (c : Dev nD) : (∑ d : Dev nD, O₀ d (dCell c 14) ()) = amt 14 := by
  rw [Finset.sum_congr rfl (g := fun d => if d = rgt c then amt 14 else 0) fun d _ => by
    rw [owed_eq]; simp]
  rw [Finset.sum_ite_eq', if_pos (Finset.mem_univ _)]
theorem sum_15 (c : Dev nD) : (∑ d : Dev nD, O₀ d (dCell c 15) ()) = amt 15 := by
  rw [Finset.sum_congr rfl (g := fun d => if d = lft c then amt 15 else 0) fun d _ => by
    rw [owed_eq]; simp]
  rw [Finset.sum_ite_eq', if_pos (Finset.mem_univ _)]
theorem sum_16 (c : Dev nD) : (∑ d : Dev nD, O₀ d (dCell c 16) ()) = amt 16 := by
  rw [Finset.sum_congr rfl (g := fun d => if d = rgt c then amt 16 else 0) fun d _ => by
    rw [owed_eq]; simp]
  rw [Finset.sum_ite_eq', if_pos (Finset.mem_univ _)]
theorem sum_17 (c : Dev nD) : (∑ d : Dev nD, O₀ d (dCell c 17) ()) = amt 17 := by
  rw [Finset.sum_congr rfl (g := fun d => if d = lft c then amt 17 else 0) fun d _ => by
    rw [owed_eq]; simp]
  rw [Finset.sum_ite_eq', if_pos (Finset.mem_univ _)]
theorem sum_18 (c : Dev nD) : (∑ d : Dev nD, O₀ d (dCell c 18) ()) = amt 18 := by
  rw [Finset.sum_congr rfl (g := fun d => if d = rgt c then amt 18 else 0) fun d _ => by
    rw [owed_eq]; simp]
  rw [Finset.sum_ite_eq', if_pos (Finset.mem_univ _)]

theorem sems_eq (Φ : SemLoc sig → sProp 𝕄) : bigSep Finset.univ Φ = iprop(Φ (.reg barS) ∗ Φ (.dma 0) ∗ Φ (.dma 1) ∗ Φ (.dma 2) ∗ Φ (.dma 3) ∗ Φ (.dma 4) ∗ Φ (.dma 5) ∗ Φ (.dma 6) ∗ Φ (.dma 7) ∗ Φ (.dma 8) ∗ Φ (.dma 9) ∗ Φ (.dma 10) ∗ Φ (.dma 11) ∗ Φ (.dma 12) ∗ Φ (.dma 13) ∗ Φ (.dma 14) ∗ Φ (.dma 15) ∗ Φ (.dma 16) ∗ Φ (.dma 17) ∗ Φ (.dma 18)) := by
  rw [bigSep_univ_eq_bigSepL [.reg barS, .dma 0, .dma 1, .dma 2, .dma 3, .dma 4, .dma 5, .dma 6, .dma 7, .dma 8, .dma 9, .dma 10, .dma 11, .dma 12, .dma 13, .dma 14, .dma 15, .dma 16, .dma 17, .dma 18] (by decide) (by decide)]; rfl

theorem creds (c : Dev nD) : (Pipeline.launchCred O₀ c : sProp 𝕄) ⊢ iprop(cred (tallyAt (barCell c) () 2) ∗ cred (tallyAt (dCell c 13) () (amt 13)) ∗ cred (tallyAt (dCell c 14) () (amt 14)) ∗ cred (tallyAt (dCell c 15) () (amt 15)) ∗ cred (tallyAt (dCell c 16) () (amt 16)) ∗ cred (tallyAt (dCell c 17) () (amt 17)) ∗ cred (tallyAt (dCell c 18) () (amt 18))) := by
  unfold Pipeline.launchCred
  rw [sems_eq]
  rw [← launch_cell c (.reg barS) 2 (sum_bar c), ← launch_cell c (.dma 13) (amt 13) (sum_13 c), ← launch_cell c (.dma 14) (amt 14) (sum_14 c), ← launch_cell c (.dma 15) (amt 15) (sum_15 c), ← launch_cell c (.dma 16) (amt 16) (sum_16 c), ← launch_cell c (.dma 17) (amt 17) (sum_17 c), ← launch_cell c (.dma 18) (amt 18) (sum_18 c)]
  iintro ⟨HB, -, -, -, -, -, -, -, -, -, -, -, -, -, H13, H14, H15, H16, H17, H18⟩
  isplitl [HB]; · iexact HB
  isplitl [H13]; · iexact H13
  isplitl [H14]; · iexact H14
  isplitl [H15]; · iexact H15
  isplitl [H16]; · iexact H16
  isplitl [H17]; · iexact H17
  iexact H18

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' poss payToks
  iintro ⟨⟨B0, B1, B2, B3, B4, BO⟩, Hlev, Hcr, -, ⟨%K, HR⟩, ⟨A0, A1, A2, A3, A4, A5, A6, A7, A8, A9, A10, A11, A12, A13, A14, A15, A16, A17, A18, A19⟩, ⟨T0, T1, T2, T3, T4, T5, T6, T7, T8, T9, T10, T11, T12, T13, T14, T15, T16, T17, T18, T19, T20⟩⟩
  ihave Hc := (creds (F := F) c) $$ Hcr
  icases Hc with ⟨HB, H13, H14, H15, H16, H17, H18⟩
  imodintro
  isplitl
  rotate_left
  · iempintro
  unfold start
  isplitl [HR Hlev]
  · iexists K
    unfold recs recs₀
    icases HR with ⟨HI, HR⟩
    isplitl [HI]; · iexact HI
    isplitl [HR]; · iexact HR
    iexact Hlev
  isplitl [A0 T0 A1 T1 A2 T2 A3 T3 A4 T4 A5 T5 A6 T6 A7 T7 A8 T8 A9 T9 A10 T10 A11 T11 A12 T12]
  · unfold idles idle
    isplitl [A0 T0]
    · isplitl [A0]; · iexact A0
      iexact T0
    isplitl [A1 T1]
    · isplitl [A1]; · iexact A1
      iexact T1
    isplitl [A2 T2]
    · isplitl [A2]; · iexact A2
      iexact T2
    isplitl [A3 T3]
    · isplitl [A3]; · iexact A3
      iexact T3
    isplitl [A4 T4]
    · isplitl [A4]; · iexact A4
      iexact T4
    isplitl [A5 T5]
    · isplitl [A5]; · iexact A5
      iexact T5
    isplitl [A6 T6]
    · isplitl [A6]; · iexact A6
      iexact T6
    isplitl [A7 T7]
    · isplitl [A7]; · iexact A7
      iexact T7
    isplitl [A8 T8]
    · isplitl [A8]; · iexact A8
      iexact T8
    isplitl [A9 T9]
    · isplitl [A9]; · iexact A9
      iexact T9
    isplitl [A10 T10]
    · isplitl [A10]; · iexact A10
      iexact T10
    isplitl [A11 T11]
    · isplitl [A11]; · iexact A11
      iexact T11
    isplitl [A12]; · iexact A12
    iexact T12
  isplitl [A13 H13 A14 H14 A15 H15 A16 H16 A17 H17 A18 H18]
  · unfold pends pend
    isplitl [A13 H13]
    · isplitl [A13]; · iexact A13
      iexact H13
    isplitl [A14 H14]
    · isplitl [A14]; · iexact A14
      iexact H14
    isplitl [A15 H15]
    · isplitl [A15]; · iexact A15
      iexact H15
    isplitl [A16 H16]
    · isplitl [A16]; · iexact A16
      iexact H16
    isplitl [A17 H17]
    · isplitl [A17]; · iexact A17
      iexact H17
    isplitl [A18]; · iexact A18
    iexact H18
  isplitl [T13 T14 T15 T16 T17 T18]
  · unfold toks tok
    isplitl [T13]; · iexact T13
    isplitl [T14]; · iexact T14
    isplitl [T15]; · iexact T15
    isplitl [T16]; · iexact T16
    isplitl [T17]; · iexact T17
    iexact T18
  isplitl [A19 HB T20 T19]
  · unfold bars
    isplitl [A19]; · iexact A19
    isplitl [HB]; · iexact HB
    isplitl [T20]; · iexact T20
    iexact T19
  isplitl [B0 B1 B2 B3 B4]
  · unfold args
    isplitl [B0]; · iexact B0
    isplitl [B1]; · iexact B1
    isplitl [B2]; · iexact B2
    isplitl [B3]; · iexact B3
    iexact B4
  rw [room_whole]
  iexists _
  iexact BO

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scrs_eq]
  unfold Φ₀
  iintro ⟨Hs, -, Hr⟩
  isplitl [Hs]; · iexact Hs
  iexact Hr

theorem phi1_exit (c : Dev nD) :
    (dats m 0 c).Φ (Fin.last cfg0.N) ⊢ iprop((args m c ∗ result m c ∗ unscopedSems0 c) ∗ Pipeline.ownSems0 osem c ∗ Pipeline.scopedRest cfg0.spec c) := by
  rw [show (dats m 0 c).Φ (Fin.last cfg0.N) = Φ₁ m c from rfl, scrs_eq, ownSems0_eq, unscopedSems0_eq]
  unfold Φ₁
  iintro ⟨⟨HA, HO⟩, HF, HV, HS⟩
  isplitl [HA HO HV]
  · isplitl [HA]; · iexact HA
    isplitl [HO]; · iexact HO
    iexact HV
  isplitl [HF]; · iexact HF
  iexact HS

theorem waits (c : Dev nD) : (levAts L lv : sProp 𝕄) ⊢ Pipeline.cellsWaits cfgs (dats m) () 0 c :=
  Pipeline.cellsWaits_intro cfgs (dats m) () 0 c fun w s t => (w : Fin 0).elim0

/-! ## The run -/

/-- Device `c`'s memory at the end: its five operands as they were, its result's two rows at `res0` and `res1`. -/
def MemQ (c : Dev nD) (μ : (ℓ : Loc nD τ sig) → Buf (Elt F) ℓ) : Prop :=
  μ ((c : Thread nD τ).loc main_arg0) = m ((c : Thread nD τ).loc main_arg0) ∧ μ ((c : Thread nD τ).loc main_arg1) = m ((c : Thread nD τ).loc main_arg1) ∧ μ ((c : Thread nD τ).loc main_arg2) = m ((c : Thread nD τ).loc main_arg2) ∧ μ ((c : Thread nD τ).loc main_arg3) = m ((c : Thread nD τ).loc main_arg3) ∧ μ ((c : Thread nD τ).loc main_arg4) = m ((c : Thread nD τ).loc main_arg4)
    ∧ (sl0 oH).view.read (Elt F) (μ ((c : Thread nD τ).loc main_v1)) = res0 m c ∧ (sl1 oH).view.read (Elt F) (μ ((c : Thread nD τ).loc main_v1)) = res1 m c

def QY (c : Dev nD) (s : MemSt nD τ sig (Elt F)) : Prop :=
  MemQ m c s.mem ∧ ∀ sm : SemLoc sig, sm.isScoped .tc = false → s.sem ((c.tc : Thread nD τ), sm) = 0

theorem read_end (c : Dev nD) (s' : Phys nD τ sig (Elt F)) :
    iprop((args m c ∗ result m c ∗ unscopedSems0 c) ∗ emp ∗ SI s') ⊢ (|={Set.univ}=> iprop(⌜QY m c s'.mem⌝ ∗ SI s') : sProp 𝕄) := by
  unfold args result
  iintro ⟨⟨⟨A0, A1, A2, A3, A4⟩, ⟨%f, %hf, HO⟩, HU⟩, -, HSI⟩
  icombine HSI A0 gives %h0
  icombine HSI A1 gives %h1
  icombine HSI A2 gives %h2
  icombine HSI A3 gives %h3
  icombine HSI A4 gives %h4
  icombine HSI HO gives %h5
  imod (Pipeline.unscopedSems0_read (X := unscopedSems0 c) (c := c) fupd_intro s') $$ [HU HSI] with ⟨%hs, HSI⟩
  · isplitl [HU] <;> iassumption
  imodintro
  isplitr
  · ipureintro
    refine ⟨⟨Buf.eq_of_forall_mem_univ h0, Buf.eq_of_forall_mem_univ h1, Buf.eq_of_forall_mem_univ h2, Buf.eq_of_forall_mem_univ h3,
      Buf.eq_of_forall_mem_univ h4, ?_⟩, hs⟩
    rw [Buf.eq_of_forall_mem_univ h5]
    exact hf
  · iexact HSI

/-- On four devices, for any float values, from any memory with zero counters: every weakly fair execution ends, every
    device with its operands as they were, its result at the computed rows, and every counter zero. -/
theorem run_main : θ_run defs (onTc (τ := τ) (main (F := F))) ⟨m, fun _ => 0, ρ⟩ (fun r => (∀ c, MemQ m c r.2.mem) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => (w : Fin 0).elim0) (harr := arr_whole0) (hstage := stage_whole0) (hshare := fun _ w => (w : Fin 0).elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(args m c ∗ result m c ∗ unscopedSems0 c)) (Z := fun _ => iprop(emp))
    (hX := start_intro m ρ) (hin := phi0_intro m) (hout := phi1_exit m)
    (QY := QY m)
    (hY := fun c s' => read_end m c s')
    (hQ := fun _ h hs => ⟨fun c => (h c).2.2.1, sem_eq_zero hs fun c => (h c).2.2.2⟩)

end Cert.KernelIdeal.Hand
-- ==== Proof.Frames.lean ====
/-
The frame claims: the kernel, its idealization and the reference run to the end, leave their arguments as they were and
every semaphore counter at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Hand

open Idealize.ShloMosaic Idealize.ShloMosaic.TcCoe Idealize.SL Idealize.SL.Sem

theorem frame_kernel : Cert.quiescent_Kernel := fun m ρ _ =>
  (θ_run (Cert.KernelIdeal.defs (F := Bits)) _ _).mono
    (fun _ h => ⟨fun c => ⟨(h.1 c).1, (h.1 c).2.1, (h.1 c).2.2.1, (h.1 c).2.2.2.1, (h.1 c).2.2.2.2.1⟩, h.2⟩)
    (Cert.KernelIdeal.Hand.run_main (F := Bits) m ρ)

theorem frame_ideal : Cert.quiescent_KernelIdeal := fun m ρ _ =>
  (θ_run (Cert.KernelIdeal.defs (F := Ideal)) _ _).mono
    (fun _ h => ⟨fun c => ⟨(h.1 c).1, (h.1 c).2.1, (h.1 c).2.2.1, (h.1 c).2.2.2.1, (h.1 c).2.2.2.2.1⟩, h.2⟩)
    (Cert.KernelIdeal.Hand.run_main (F := Ideal) m ρ)

theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

end Cert.Hand

end
-- ==== Proof.Softmax.lean ====
/-
The mathematics of the softmax, over the extended reals: scaling scores by a real factor before or after they are
summed, and dividing by the sum of the exponentials before or after the values are weighted, with or without the
row's maximum subtracted.  The scores must be real; the values need not be.
-/
module

public import Idealize.ShloMosaic.PureOps.Ideal
public import Idealize.ShloMosaic.Lib.Pointwise.Sums
public import Mathlib.Data.EReal.Operations

@[expose] public section

noncomputable section

namespace Cert.Hand

open Idealize.ShloMosaic

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-- A real that is not negative distributes over any sum of extended reals. -/
theorem sum_mul_real {ι : Type} (S : Finset ι) (f : ι → EReal) {a : ℝ} (ha : 0 ≤ a) :
    (∑ i ∈ S, f i) * (a : EReal) = ∑ i ∈ S, f i * (a : EReal) := by
  classical
  induction S using Finset.induction_on with
  | empty => simp
  | insert b S hb ih =>
    rw [Finset.sum_insert hb, Finset.sum_insert hb, ← ih, mul_comm _ (a : EReal),
      EReal.left_distrib_of_nonneg_of_ne_top (by exact_mod_cast ha) (EReal.coe_ne_top a), mul_comm (a : EReal),
      mul_comm (a : EReal)]

/-- A score's factor may be applied to the one operand or to the sum. -/
theorem score_scale {ι : Type} [Fintype ι] (p q : ι → EReal) {a : ℝ} (ha : 0 ≤ a) :
    (∑ e, p e * (a : EReal) * q e) = (∑ e, p e * q e) * (a : EReal) := by
  rw [sum_mul_real _ _ ha]
  exact Finset.sum_congr rfl fun e _ => by rw [mul_assoc, mul_comm (a : EReal), mul_assoc]

/-- One weight row's mean of values: the row's scores exponentiated, divided by their sum, and applied. -/
def mean (s v : Fin 128 → EReal) : EReal :=
  ∑ j, Ideal.div (Ideal.exp (s j)) (∑ j', Ideal.exp (s j')) * v j

/-- The same mean as the reference takes it, from a running maximum `lo` and running sums that start at zero: the
    maximum subtracted from the scores, and the weighted values divided at the end. -/
def steady (lo : EReal) (s v : Fin 128 → EReal) : EReal :=
  Ideal.div
    (0 * Ideal.exp (lo - max lo (Finset.fold max lo s Finset.univ))
      + ∑ j, v j * Ideal.exp (s j - max lo (Finset.fold max lo s Finset.univ)))
    (0 * Ideal.exp (lo - max lo (Finset.fold max lo s Finset.univ))
      + ∑ j, Ideal.exp (s j - max lo (Finset.fold max lo s Finset.univ)))

/-- The maximum of a nonempty row of reals is real. -/
theorem fold_max_real (t : Fin 128 → ℝ) :
    IsReal (Finset.fold max ⊥ (fun j => (t j : EReal)) (Finset.univ : Finset (Fin 128))) := by
  have h : Finset.fold max ⊥ (fun j => (t j : EReal)) (Finset.univ : Finset (Fin 128))
      = Finset.univ.sup (fun j => (t j : EReal)) := rfl
  rw [h]
  obtain ⟨j, -, hj⟩ := Finset.exists_mem_eq_sup (Finset.univ : Finset (Fin 128)) ⟨0, Finset.mem_univ _⟩
    (fun j => (t j : EReal))
  exact ⟨t j, hj⟩

/-- With real scores the two means agree, whatever the values are. -/
theorem mean_eq_steady (s v : Fin 128 → EReal) (hs : ∀ j, IsReal (s j)) : mean s v = steady ⊥ s v := by
  choose t ht using hs
  obtain rfl : s = fun j => (t j : EReal) := funext ht
  obtain ⟨μ, hμ⟩ := fold_max_real t
  unfold mean steady
  rw [hμ, max_eq_right bot_le]
  have e0 : (⊥ : EReal) - (μ : EReal) = ⊥ := EReal.bot_sub _
  have e1 : ∀ j, Ideal.exp ((t j : EReal) - (μ : EReal)) = ((Real.exp (t j - μ) : ℝ) : EReal) := fun j => by
    rw [← EReal.coe_sub, Ideal.exp_coe]
  have pos : 0 < ∑ j : Fin 128, Real.exp (t j - μ) :=
    Finset.sum_pos (fun j _ => Real.exp_pos _) ⟨0, Finset.mem_univ _⟩
  have pos' : 0 < ∑ j : Fin 128, Real.exp (t j) := Finset.sum_pos (fun j _ => Real.exp_pos _) ⟨0, Finset.mem_univ _⟩
  simp only [e0, e1, Ideal.exp_bot, Ideal.exp_coe, mul_zero, zero_add, coe_sum]
  rw [Ideal.div_coe pos.ne', sum_mul_real _ _ (by positivity)]
  refine Finset.sum_congr rfl fun j _ => ?_
  rw [Ideal.div_coe pos'.ne', ← EReal.coe_mul, mul_assoc, ← EReal.coe_mul, mul_comm (v j)]
  congr 2
  simp only [Real.exp_sub, ← Finset.sum_div]
  have := Real.exp_pos μ
  field_simp

/-- The factor on the scores is an eighth. -/
theorem eighth : Ideal.ofBits .f32 0x3E000000#32 = ((1 / 8 : ℝ) : EReal) := by
  simp [Ideal.ofBits, Ideal.ieee, -EReal.coe_mul]; norm_num

/-- The running maximum starts below everything. -/
theorem lowest : Ideal.ofBits .f32 0xFF800000#32 = ⊥ := by
  simp [Ideal.ofBits, Ideal.ieee]

/-- A sum over the 2048 columns is a sum over the four devices' 512. -/
theorem sum_devices (f : Fin 2048 → EReal) :
    ∑ H, f H = ∑ c : Fin 4, ∑ h : Fin 512, f ⟨512 * c.val + h.val, by omega⟩ := by
  rw [Fin.sum_univ_tiles 4 512 (by decide) f]
  exact Finset.sum_congr rfl fun c _ => Finset.sum_congr rfl fun h _ => congrArg f (Fin.ext (by dsimp only; omega))

end Cert.Hand

end
-- ==== Proof.Finite.lean ====
/-
What the precondition says: every entry of the three arrays that make the scores is real.
-/
module

public import proofs.«01_k».proof.Pre_finite_KernelIdeal
public import proofs.«01_k».proof.Pre_finite_ReferenceIdeal
public import proofs.«01_k».proof.Proof.Softmax
public import Idealize.ShloMosaic.Lib.Affine
public import Idealize.ShloMosaic.Lib.Pointwise

@[expose] public section

set_option maxRecDepth 16384

noncomputable section

namespace Cert.Hand

open Idealize.ShloMosaic

/-- The side conditions of the precondition's text, read of the kernel's arguments. -/
theorem facts_kernel : Cert.Pre_finite_KernelIdeal.Facts where
  bcast_S_S2x128x512 := by decide
  reducesTo_S2x128x512_S_d0_1_2 := by decide
  h_S_ := by decide
  bcast_S_S512x512 := by decide
  reducesTo_S512x512_S_d0_1 := by decide

/-- The same of the reference's arguments. -/
theorem facts_reference : Cert.Pre_finite_ReferenceIdeal.Facts where
  bcast_S_S2x128x512 := by decide
  reducesTo_S2x128x512_S_d0_1_2 := by decide
  h_S_ := by decide
  bcast_S_S512x2048 := by decide
  reducesTo_S512x2048_S_d0_1 := by decide
  bcast_S_S512x512 := by decide
  reducesTo_S512x512_S_d0_1 := by decide

/-- A conjunction of bits over a finite set holds of each of them. -/
theorem fold_and_one {ι : Type} (S : Finset ι) (f : ι → BitVec 1) (h : Finset.fold IntOp.andi 1#1 f S = 1#1) :
    ∀ i ∈ S, f i = 1#1 := by
  classical
  induction S using Finset.induction_on with
  | empty => intro i hi; exact absurd hi (Finset.notMem_empty i)
  | insert a S ha ih =>
    rw [Finset.fold_insert ha, IntOp.andi_eq_one] at h
    intro i hi
    rcases Finset.mem_insert.mp hi with rfl | hi
    · exact h.1
    · exact ih h.2 i hi

/-- An absolute value below infinity is that of a real. -/
theorem real_of_abs_lt {x : Ideal .f32}
    (h : BitVec.ofBool (decide ((FloatOps.absf x : EReal) < Ideal.ofBits FTy.f32 0x7F800000#32)) = 1#1) : IsReal x := by
  have e : Ideal.ofBits FTy.f32 0x7F800000#32 = ⊤ := by simp [Ideal.ofBits, Ideal.ieee]
  rw [e] at h
  have h' : max (x : EReal) (-x) < ⊤ := by
    by_contra hn
    rw [show decide ((FloatOps.absf x : EReal) < ⊤) = false from decide_eq_false hn] at h
    exact absurd h (by decide)
  induction x using EReal.rec with
  | bot => simp at h'
  | top => simp at h'
  | coe r => exact ⟨r, rfl⟩

open Cert.Pre_finite_KernelIdeal in
/-- Under the precondition the entries of the input, of the query matrix and of the key matrix are real. -/
theorem finite_of_pre [Facts] (x : FVec Ideal S2x128x512 .f32) (wq wk wv wo : FVec Ideal S512x512 .f32)
    (h : fn (F := Ideal) x wq wk wv wo = fun _ => 1#1) :
    (∀ b r e, IsReal (x (ix3 b r e))) ∧ (∀ i j, IsReal (wq (ix2 i j))) ∧ (∀ i j, IsReal (wk (ix2 i j))) := by
  have h' := congrFun h ix0
  pointwise [Cert.Pre_finite_KernelIdeal.fn] at h'
  rw [IntOp.andi_eq_one, IntOp.andi_eq_one] at h'
  obtain ⟨⟨h1, h2⟩, h3⟩ := h'
  exact ⟨fun b r e => real_of_abs_lt (fold_and_one _ _ h1 (b, r, e) (Finset.mem_univ _)),
    fun i j => real_of_abs_lt (fold_and_one _ _ h2 (i, j) (Finset.mem_univ _)),
    fun i j => real_of_abs_lt (fold_and_one _ _ h3 (i, j) (Finset.mem_univ _))⟩

end Cert.Hand

end
-- ==== Proof.Heads.lean ====
/-
What one device computes from its operands: the attention of its eight heads, and their product with its rows of
the output projection.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Hand

open Cert.KernelIdeal Cert.KernelIdeal.Gen Idealize.ShloMosaic Cert.Hand

section Shape

variable {F : FTy → Type} [FloatOps F]

/-- The attention of four stacked heads that share one key and one value head. -/
def group (qs : FVec F S512x64 .bf16) (k v : FVec F S128x64 .bf16) : FVec F S512x64 .bf16 :=
  truncf .bf16 (matmul dot_S512x128_S128x64_S512x64_1_0_0_1_n_n none
    (truncf .bf16 (divf (exp (matmul dot_S512x64_S128x64_S512x128_1_1_0_0_n_n none qs k (constant S512x128 .f32 0x00000000#32)))
      (broadcastTo S512x128 (shapeCast S512x1 (multiReduction .add [1] S512
        (exp (matmul dot_S512x64_S128x64_S512x128_1_1_0_0_n_n none qs k (constant S512x128 .f32 0x00000000#32)))
        0x00000000#32 reduces_S512x128_S512 (.inl rfl) rfl) shapeCasts_S512_S512x1) broadcasts_S512x1_S512x128)) bitsLt_bf16_f32)
    v (constant S512x64 .f32 0x00000000#32)) bitsLt_bf16_f32

/-- The first four heads' columns of the queries, one below another. -/
def stackA (q : FVec F S128x512 .bf16) : FVec F S512x64 .bf16 :=
  concatenate S512x64 0 [⟨S128x64, extractStridedSlice S128x64 ![0, 0] q slices_S128x512_o0_0_S128x64⟩,
    ⟨S128x64, extractStridedSlice S128x64 ![0, 64] q slices_S128x512_o0_64_S128x64⟩,
    ⟨S128x64, extractStridedSlice S128x64 ![0, 128] q slices_S128x512_o0_128_S128x64⟩,
    ⟨S128x64, extractStridedSlice S128x64 ![0, 192] q slices_S128x512_o0_192_S128x64⟩]
    concatenates_S128x64_S128x64_S128x64_S128x64_S512x64_d0

/-- The last four heads' columns of the queries, one below another. -/
def stackB (q : FVec F S128x512 .bf16) : FVec F S512x64 .bf16 :=
  concatenate S512x64 0 [⟨S128x64, extractStridedSlice S128x64 ![0, 256] q slices_S128x512_o0_256_S128x64⟩,
    ⟨S128x64, extractStridedSlice S128x64 ![0, 320] q slices_S128x512_o0_320_S128x64⟩,
    ⟨S128x64, extractStridedSlice S128x64 ![0, 384] q slices_S128x512_o0_384_S128x64⟩,
    ⟨S128x64, extractStridedSlice S128x64 ![0, 448] q slices_S128x512_o0_448_S128x64⟩]
    concatenates_S128x64_S128x64_S128x64_S128x64_S512x64_d0

/-- Two stacks of four heads laid side by side again, a head's columns at its place. -/
def unstack (a b : FVec F S512x64 .bf16) : FVec F S128x512 .bf16 :=
  concatenate S128x512 1 [⟨S128x64, extractStridedSlice S128x64 ![0, 0] a slices_S512x64_o0_0_S128x64⟩,
    ⟨S128x64, extractStridedSlice S128x64 ![128, 0] a slices_S512x64_o128_0_S128x64⟩,
    ⟨S128x64, extractStridedSlice S128x64 ![256, 0] a slices_S512x64_o256_0_S128x64⟩,
    ⟨S128x64, extractStridedSlice S128x64 ![384, 0] a slices_S512x64_o384_0_S128x64⟩,
    ⟨S128x64, extractStridedSlice S128x64 ![0, 0] b slices_S512x64_o0_0_S128x64⟩,
    ⟨S128x64, extractStridedSlice S128x64 ![128, 0] b slices_S512x64_o128_0_S128x64⟩,
    ⟨S128x64, extractStridedSlice S128x64 ![256, 0] b slices_S512x64_o256_0_S128x64⟩,
    ⟨S128x64, extractStridedSlice S128x64 ![384, 0] b slices_S512x64_o384_0_S128x64⟩]
    concatenates_S128x64_S128x64_S128x64_S128x64_S128x64_S128x64_S128x64_S128x64_S128x512_d1

/-- The left half of two key or value heads. -/
def headA (k : FVec F S128x128 .bf16) : FVec F S128x64 .bf16 :=
  extractStridedSlice S128x64 ![0, 0] k slices_S128x128_o0_0_S128x64

/-- The right half of two key or value heads. -/
def headB (k : FVec F S128x128 .bf16) : FVec F S128x64 .bf16 :=
  extractStridedSlice S128x64 ![0, 64] k slices_S128x128_o0_64_S128x64

/-- The eight heads' outputs side by side. -/
def heads (q : FVec F S128x512 .bf16) (k v : FVec F S128x128 .bf16) : FVec F S128x512 .bf16 :=
  unstack (group (stackA q) (headA k) (headA v)) (group (stackB q) (headB k) (headB v))

/-- The heads' outputs times the device's rows of the output projection. -/
def project (o : FVec F S128x512 .bf16) (wo : FVec F S512x512 .bf16) : FVec F S128x512 .f32 :=
  matmul dot_S128x512_S512x512_S128x512_1_0_0_1_n_n none o wo (constant S128x512 .f32 0x00000000#32)

/-- The first batch row's product is the projection of the heads. -/
theorem pay10_eq (wo : FVec F S512x512 .bf16) (q : FVec F S128x512 .bf16) (k v : FVec F S128x128 .bf16) :
    k0_pay10 wo q k v (extractStridedSlice S128x64 ![0, 0] q slices_S128x512_o0_0_S128x64)
      = project (heads q k v) wo := rfl

/-- The second batch row's product is the same function of its operands. -/
theorem pay19_eq (wo : FVec F S512x512 .bf16) (q : FVec F S128x512 .bf16) (k v : FVec F S128x128 .bf16) :
    k0_pay19 wo q k v (extractStridedSlice S128x64 ![0, 0] q slices_S128x512_o0_0_S128x64)
        (extractStridedSlice S128x64 ![0, 64] q slices_S128x512_o0_64_S128x64)
      = project (heads q k v) wo := rfl

end Shape

section Values

/-- Two places of a matrix with equal coordinates are one. -/
theorem ix2_same {a b : ℕ} {i i' : Fin a} {j j' : Fin b} (hi : i.val = i'.val) (hj : j.val = j'.val) :
    (ix2 i j : Shape.Idx ⟨2, ![a, b]⟩) = ix2 i' j' := by
  obtain rfl := Fin.ext hi
  obtain rfl := Fin.ext hj
  rfl

/-- A stack's attention at a place: the weights of its row, and the values of its column. -/
theorem group_apply (qs : FVec Ideal S512x64 .bf16) (k v : FVec Ideal S128x64 .bf16) (s : Fin 512) (d : Fin 64) :
    group qs k v (ix2 s d) = ∑ j : Fin 128,
      Ideal.div (Ideal.exp (∑ e : Fin 64, qs (ix2 s e) * k (ix2 j e)))
        (∑ j' : Fin 128, Ideal.exp (∑ e : Fin 64, qs (ix2 s e) * k (ix2 j' e))) * v (ix2 j d) := by
  pointwise [group]

theorem stackA_apply (q : FVec Ideal S128x512 .bf16) (s : Fin 512) (d : Fin 64) :
    stackA q (ix2 s d) = q (ix2 ⟨s.val % 128, by omega⟩ ⟨64 * (s.val / 128) + d.val, by omega⟩) := by
  pointwise [stackA]
  split_ifs <;> exact congrArg q (ix2_same (by dsimp only; omega) (by dsimp only; omega))

theorem stackB_apply (q : FVec Ideal S128x512 .bf16) (s : Fin 512) (d : Fin 64) :
    stackB q (ix2 s d) = q (ix2 ⟨s.val % 128, by omega⟩ ⟨256 + 64 * (s.val / 128) + d.val, by omega⟩) := by
  pointwise [stackB]
  split_ifs <;> exact congrArg q (ix2_same (by dsimp only; omega) (by dsimp only; omega))

theorem headA_apply (k : FVec Ideal S128x128 .bf16) (j : Fin 128) (e : Fin 64) :
    headA k (ix2 j e) = k (ix2 j ⟨e.val, by omega⟩) := by
  pointwise [headA]

theorem headB_apply (k : FVec Ideal S128x128 .bf16) (j : Fin 128) (e : Fin 64) :
    headB k (ix2 j e) = k (ix2 j ⟨64 + e.val, by omega⟩) := by
  pointwise [headB]

theorem unstack_left (a b : FVec Ideal S512x64 .bf16) (r : Fin 128) (h : Fin 512) (hh : h.val < 256) :
    unstack a b (ix2 r h) = a (ix2 ⟨128 * (h.val / 64) + r.val, by omega⟩ ⟨h.val % 64, by omega⟩) := by
  pointwise [unstack]
  split_ifs <;> first
    | omega
    | exact congrArg a (ix2_same (by dsimp only; omega) (by dsimp only; omega))

theorem unstack_right (a b : FVec Ideal S512x64 .bf16) (r : Fin 128) (h : Fin 512) (hh : 256 ≤ h.val) :
    unstack a b (ix2 r h) = b (ix2 ⟨128 * (h.val / 64 - 4) + r.val, by omega⟩ ⟨h.val % 64, by omega⟩) := by
  pointwise [unstack]
  split_ifs <;> first
    | omega
    | exact congrArg b (ix2_same (by dsimp only; omega) (by dsimp only; omega))

/-- The heads' outputs at row `r`, column `h`: the head is `h / 64`, its key and value head `h / 256`. -/
theorem heads_apply (q : FVec Ideal S128x512 .bf16) (k v : FVec Ideal S128x128 .bf16) (r : Fin 128) (h : Fin 512) :
    heads q k v (ix2 r h)
      = mean (fun j => ∑ e : Fin 64, q (ix2 r ⟨64 * (h.val / 64) + e.val, by omega⟩)
            * k (ix2 j ⟨64 * (h.val / 256) + e.val, by omega⟩))
          (fun j => v (ix2 j ⟨64 * (h.val / 256) + h.val % 64, by omega⟩)) := by
  unfold heads mean
  by_cases hh : h.val < 256
  · rw [unstack_left _ _ _ _ hh, group_apply]
    simp only [stackA_apply, headA_apply]
    have e1 : ∀ e : Fin 64, q (ix2 ⟨(128 * (h.val / 64) + r.val) % 128, by omega⟩
        ⟨64 * ((128 * (h.val / 64) + r.val) / 128) + e.val, by omega⟩)
        = q (ix2 r ⟨64 * (h.val / 64) + e.val, by omega⟩) := fun e =>
      congrArg q (ix2_same (by dsimp only; omega) (by dsimp only; omega))
    have e2 : ∀ (j : Fin 128) (e : Fin 64), k (ix2 j ⟨e.val, by omega⟩)
        = k (ix2 j ⟨64 * (h.val / 256) + e.val, by omega⟩) := fun j e =>
      congrArg k (ix2_same rfl (by dsimp only; omega))
    have e3 : ∀ (j : Fin 128), v (ix2 j ⟨h.val % 64, by omega⟩)
        = v (ix2 j ⟨64 * (h.val / 256) + h.val % 64, by omega⟩) := fun j =>
      congrArg v (ix2_same rfl (by dsimp only; omega))
    simp only [e1, e2, e3]
  · rw [unstack_right _ _ _ _ (by omega), group_apply]
    simp only [stackB_apply, headB_apply]
    have e1 : ∀ e : Fin 64, q (ix2 ⟨(128 * (h.val / 64 - 4) + r.val) % 128, by omega⟩
        ⟨256 + 64 * ((128 * (h.val / 64 - 4) + r.val) / 128) + e.val, by omega⟩)
        = q (ix2 r ⟨64 * (h.val / 64) + e.val, by omega⟩) := fun e =>
      congrArg q (ix2_same (by dsimp only; omega) (by dsimp only; omega))
    have e2 : ∀ (j : Fin 128) (e : Fin 64), k (ix2 j ⟨64 + e.val, by omega⟩)
        = k (ix2 j ⟨64 * (h.val / 256) + e.val, by omega⟩) := fun j e =>
      congrArg k (ix2_same rfl (by dsimp only; omega))
    have e3 : ∀ (j : Fin 128), v (ix2 j ⟨64 + h.val % 64, by omega⟩)
        = v (ix2 j ⟨64 * (h.val / 256) + h.val % 64, by omega⟩) := fun j =>
      congrArg v (ix2_same rfl (by dsimp only; omega))
    simp only [e1, e2, e3]

theorem project_apply (o : FVec Ideal S128x512 .bf16) (wo : FVec Ideal S512x512 .bf16) (r : Fin 128) (n : Fin 512) :
    project o wo (ix2 r n) = ∑ h : Fin 512, o (ix2 r h) * wo (ix2 h n) := by
  pointwise [project]

/-! The operands of the heads, from the arrays the device fetches. -/

theorem query_apply (wq : Vec Ideal S512x512 .f32) (x : Vec Ideal S1x128x512 .f32) (r : Fin 128) (h : Fin 512) :
    (k0_pay5 wq x : FVec Ideal S128x512 .bf16) (ix2 r h)
      = (∑ e : Fin 512, x (ix3 0 r e) * wq (ix2 e h)) * Ideal.ofBits .f32 0x3E000000#32 := by
  pointwise [k0_pay5, k0_pay4, k0_pay2]

theorem key_apply (wk wv : Vec Ideal S512x128 .f32) (x : Vec Ideal S1x128x512 .f32) (j t : Fin 128) :
    (k0_pay7 wk wv x : FVec Ideal S128x128 .bf16) (ix2 j t) = ∑ e : Fin 512, x (ix3 0 j e) * wk (ix2 e t) := by
  pointwise [k0_pay7, k0_pay6, k0_pay4, k0_pay1]

theorem value_apply (wk wv : Vec Ideal S512x128 .f32) (x : Vec Ideal S1x128x512 .f32) (j t : Fin 128) :
    (k0_pay8 wk wv x : FVec Ideal S128x128 .bf16) (ix2 j t) = ∑ e : Fin 512, x (ix3 0 j e) * wv (ix2 e t) := by
  pointwise [k0_pay8, k0_pay6, k0_pay4, k0_pay1]

end Values

end Cert.KernelIdeal.Hand

end
-- ==== Proof.Plain.lean ====
/-
What the reference computes, at a place of its result.
-/
module

public import proofs.«01_k».proof.Proof.Gen.ReferenceIdeal.Run
public import proofs.«01_k».proof.Proof.Softmax
public import Idealize.ShloMosaic.Lib.Pointwise
public import Idealize.ShloMosaic.Lib.Tactic.CleanTypes

@[expose] public section

set_option maxRecDepth 16384

noncomputable section

namespace Cert.Hand

open Idealize.ShloMosaic

/-! ## The whole arrays -/

section Whole

variable (X : (⟨3, ![2, 128, 512]⟩ : Shape).Idx → EReal) (Wq : (⟨2, ![512, 2048]⟩ : Shape).Idx → EReal)
  (Wk Wv : (⟨2, ![512, 512]⟩ : Shape).Idx → EReal) (Wo : (⟨2, ![2048, 512]⟩ : Shape).Idx → EReal)

/-- Column `H` of the queries of batch row `b`, at position `r`. -/
def query (b : Fin 2) (r : Fin 128) (H : Fin 2048) : EReal := ∑ e : Fin 512, X (ix3 b r e) * Wq (ix2 e H)

/-- Column `t` of the keys, and by the other matrix of the values. -/
def key (b : Fin 2) (r : Fin 128) (t : Fin 512) : EReal := ∑ e : Fin 512, X (ix3 b r e) * Wk (ix2 e t)

/-- The score of position `r` against position `j`, in the head that holds column `H`. -/
def score (b : Fin 2) (r : Fin 128) (H : Fin 2048) (j : Fin 128) : EReal :=
  (∑ e : Fin 64, query X Wq b r ⟨H.val / 64 * 64 + e.val, by omega⟩
    * key X Wk b j ⟨H.val / 64 / 4 * 64 + e.val, by omega⟩) * Ideal.ofBits .f32 0x3E000000#32

/-- The values that column `H` of the heads' outputs weights. -/
def values (b : Fin 2) (H : Fin 2048) (j : Fin 128) : EReal :=
  key X Wv b j ⟨H.val / 64 / 4 * 64 + H.val % 64, by omega⟩

/-- The result at position `r` of batch row `b`, column `n`. -/
def answer (b : Fin 2) (r : Fin 128) (n : Fin 512) : EReal :=
  ∑ H : Fin 2048, steady (Ideal.ofBits .f32 0xFF800000#32) (score X Wq Wk b r H) (values X Wv b H) * Wo (ix2 H n)

end Whole

end Cert.Hand

namespace Cert.ReferenceIdeal.Hand

open Cert.ReferenceIdeal Cert.ReferenceIdeal.Gen Cert.ReferenceIdeal.Value Idealize.ShloMosaic

variable (m : (ℓ : Loc nD τ sig) → Buf (Elt Ideal) ℓ) (c : Dev nD)

/-- The reference's result is the one named above. -/
theorem res_apply (b : Fin 2) (r : Fin 128) (n : Fin 512) :
    (res_main_v38 m c : S2x128x512.Idx → EReal) (ix3 b r n)
      = Cert.Hand.answer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b r n := by
  unfold res_main_v38
  clean_types
  pointwise
  rfl

end Cert.ReferenceIdeal.Hand

end
-- ==== Proof.Share.lean ====
/-
What each device adds to the result, in terms of the whole arrays: the part of the last product that runs over the
device's own 512 columns of the heads' outputs.
-/
module

public import proofs.«01_k».proof.Proof.Protocol
public import proofs.«01_k».proof.Proof.Heads
public import proofs.«01_k».proof.Proof.Plain

@[expose] public section

set_option maxRecDepth 16384

noncomputable section

namespace Cert.KernelIdeal.Hand

open Cert.KernelIdeal Cert.KernelIdeal.Gen Idealize.ShloMosaic Idealize.ShloMosaic.TcCoe Cert.Hand

/-! ## One device's part, from the arrays it fetches -/

/-- One batch row's part, from that row of the input and the device's matrices. -/
def part (x : Vec Ideal S1x128x512 .f32) (wq : Vec Ideal S512x512 .f32) (wk wv : Vec Ideal S512x128 .f32)
    (wo : Vec Ideal S512x512 .f32) : FVec Ideal S128x512 .f32 :=
  project (heads (k0_pay5 wq x) (k0_pay7 wk wv x) (k0_pay8 wk wv x)) (k0_pay3 wo)

section Whole

variable (X : (⟨3, ![2, 128, 512]⟩ : Shape).Idx → EReal) (Wq : (⟨2, ![512, 2048]⟩ : Shape).Idx → EReal)
  (Wk Wv : (⟨2, ![512, 512]⟩ : Shape).Idx → EReal) (Wo : (⟨2, ![2048, 512]⟩ : Shape).Idx → EReal)

/-- The summand of the result that belongs to column `H` of the heads' outputs. -/
def term (b : Fin 2) (r : Fin 128) (n : Fin 512) (H : Fin 2048) : EReal :=
  mean (score X Wq Wk b r H) (values X Wv b H) * Wo (ix2 H n)

/-- Device `c`'s part is the sum over its own columns. -/
theorem part_apply (c : Fin 4) (b : Fin 2) (x : Vec Ideal S1x128x512 .f32) (wq : Vec Ideal S512x512 .f32)
    (wk wv : Vec Ideal S512x128 .f32) (wo : Vec Ideal S512x512 .f32)
    (hx : ∀ (r : Fin 128) (e : Fin 512), x (ix3 0 r e) = X (ix3 b r e))
    (hq : ∀ e h : Fin 512, wq (ix2 e h) = Wq (ix2 e ⟨512 * c.val + h.val, by omega⟩))
    (hk : ∀ (e : Fin 512) (t : Fin 128), wk (ix2 e t) = Wk (ix2 e ⟨128 * c.val + t.val, by omega⟩))
    (hv : ∀ (e : Fin 512) (t : Fin 128), wv (ix2 e t) = Wv (ix2 e ⟨128 * c.val + t.val, by omega⟩))
    (ho : ∀ h n : Fin 512, wo (ix2 h n) = Wo (ix2 ⟨512 * c.val + h.val, by omega⟩ n))
    (r : Fin 128) (n : Fin 512) :
    part x wq wk wv wo (ix2 r n) = ∑ h : Fin 512, term X Wq Wk Wv Wo b r n ⟨512 * c.val + h.val, by omega⟩ := by
  unfold part
  rw [project_apply]
  refine Finset.sum_congr rfl fun h _ => ?_
  rw [heads_apply]
  unfold term
  have eo : (k0_pay3 wo : FVec Ideal S512x512 .bf16) (ix2 h n) = Wo (ix2 ⟨512 * c.val + h.val, by omega⟩ n) := ho h n
  rw [eo]
  refine congrArg (· * Wo (ix2 ⟨512 * c.val + h.val, by omega⟩ n)) ?_
  refine congrArg₂ mean (funext fun j => ?_) (funext fun j => ?_)
  · unfold score
    rw [eighth, ← score_scale _ _ (by norm_num)]
    refine Finset.sum_congr rfl fun e _ => ?_
    rw [query_apply, key_apply, eighth]
    unfold query key
    simp only [hx, hq, hk]
    congr 1
    · congr 1
      refine Finset.sum_congr rfl fun i _ => ?_
      refine congrArg (X (ix3 b r i) * ·) (congrArg Wq (ix2_same rfl ?_))
      dsimp only; omega
    · refine Finset.sum_congr rfl fun i _ => ?_
      refine congrArg (X (ix3 b j i) * ·) (congrArg Wk (ix2_same rfl ?_))
      dsimp only; omega
  · rw [value_apply]
    unfold values key
    simp only [hx, hv]
    refine Finset.sum_congr rfl fun i _ => ?_
    refine congrArg (X (ix3 b j i) * ·) (congrArg Wv (ix2_same rfl ?_))
    dsimp only; omega

/-- With real scores the result is the sum of its terms. -/
theorem answer_eq (hX : ∀ b r e, IsReal (X (ix3 b r e))) (hQ : ∀ i j, IsReal (Wq (ix2 i j)))
    (hK : ∀ i j, IsReal (Wk (ix2 i j))) (b : Fin 2) (r : Fin 128) (n : Fin 512) :
    answer X Wq Wk Wv Wo b r n
      = ∑ c : Fin 4, ∑ h : Fin 512, term X Wq Wk Wv Wo b r n ⟨512 * c.val + h.val, by omega⟩ := by
  unfold answer
  rw [← sum_devices (term X Wq Wk Wv Wo b r n)]
  refine Finset.sum_congr rfl fun H _ => ?_
  unfold term
  rw [lowest, mean_eq_steady]
  intro j
  unfold score
  rw [eighth]
  refine IsReal.mul (IsReal.sum fun e => IsReal.mul ?_ ?_) ⟨_, rfl⟩
  · exact IsReal.sum fun i => IsReal.mul (hX _ _ _) (hQ _ _)
  · exact IsReal.sum fun i => IsReal.mul (hX _ _ _) (hK _ _)

end Whole

/-! ## What the run leaves -/

variable (m : (ℓ : Loc nD τ sig) → Buf (Elt Ideal) ℓ)

theorem acc0_eq (c : Dev nD) : acc0 m c = part (x0V m c) (wqV m c) (wkV m c) (wvV m c) (woV m c) :=
  pay10_eq (k0_pay3 (woV m c)) (k0_pay5 (wqV m c) (x0V m c)) (k0_pay7 (wkV m c) (wvV m c) (x0V m c))
    (k0_pay8 (wkV m c) (wvV m c) (x0V m c))

theorem acc1_eq (c : Dev nD) : acc1 m c = part (x1V m c) (wqV m c) (wkV m c) (wvV m c) (woV m c) :=
  pay19_eq (k0_pay3 (woV m c)) (k0_pay5 (wqV m c) (x1V m c)) (k0_pay7 (wkV m c) (wvV m c) (x1V m c))
    (k0_pay8 (wkV m c) (wvV m c) (x1V m c))

theorem msg0_apply (c : Dev nD) (r : Fin 128) (n : Fin 512) : msg0 m c (ix3 0 r n) = acc0 m c (ix2 r n) := by
  unfold msg0 acc0
  pointwise [k0_pay11]

theorem msg1_apply (c : Dev nD) (r : Fin 128) (n : Fin 512) : msg1 m c (ix3 0 r n) = acc1 m c (ix2 r n) := by
  unfold msg1 acc1
  pointwise [k0_pay20]

theorem res0_apply (c : Dev nD) (r : Fin 128) (n : Fin 512) :
    res0 m c (ix3 0 r n) = (acc0 m c (ix2 r n) + acc0 m (lft c) (ix2 r n) + acc0 m (rgt c) (ix2 r n)
      + acc0 m (lft (lft c)) (ix2 r n) : EReal) := by
  unfold res0
  pointwise [k0_pay24, k0_pay21]
  simp only [msg0_apply]

theorem res1_apply (c : Dev nD) (r : Fin 128) (n : Fin 512) :
    res1 m c (ix3 0 r n) = (acc1 m c (ix2 r n) + acc1 m (lft c) (ix2 r n) + acc1 m (rgt c) (ix2 r n)
      + acc1 m (rgt (rgt c)) (ix2 r n) : EReal) := by
  unfold res1
  pointwise [k0_pay25, k0_pay23, k0_pay22]
  simp only [msg1_apply]

/-- A device, its two neighbours and the one opposite are all four. -/
theorem sum_around (f : Dev nD → EReal) (c : Dev nD) :
    f c + f (lft c) + f (rgt c) + f (lft (lft c)) = ∑ d : Fin 4, f d := by
  rw [Fin.sum_univ_four]
  revert c
  show ∀ c : Fin 4, _
  intro c
  match c with
  | 0 => show f 0 + f 3 + f 1 + f 2 = _; ac_rfl
  | 1 => show f 1 + f 0 + f 2 + f 3 = _; ac_rfl
  | 2 => show f 2 + f 1 + f 3 + f 0 = _; ac_rfl
  | 3 => show f 3 + f 2 + f 0 + f 1 = _; ac_rfl

end Cert.KernelIdeal.Hand

end
-- ==== Proof.Algebraic.lean ====
/-
The value claim: every device's result is the reference's, when the entries that make the scores are finite.
-/
module

public import proofs.«01_k».proof.Defs
public import proofs.«01_k».proof.Proof.Launch
public import proofs.«01_k».proof.Proof.Finite
public import proofs.«01_k».proof.Proof.Share

@[expose] public section

set_option maxRecDepth 16384

noncomputable section

namespace Cert.KernelIdeal.Hand

open Cert.KernelIdeal Cert.KernelIdeal.Gen Idealize.ShloMosaic Idealize.ShloMosaic.TcCoe Idealize.SL.Sem Cert.Hand

/-! ## Reading rows and columns -/

/-- Two places of a three-dimensional array with equal coordinates are one. -/
theorem ix3_same {a b c : ℕ} {u v : (⟨3, ![a, b, c]⟩ : Shape).Idx} (h0 : (u 0).val = (v 0).val)
    (h1 : (u 1).val = (v 1).val) (h2 : (u 2).val = (v 2).val) : u = v := by
  funext k
  revert k
  show ∀ k : Fin 3, _
  intro k
  match k with
  | 0 => exact Fin.ext h0
  | 1 => exact Fin.ext h1
  | 2 => exact Fin.ext h2

/-- The same of a matrix. -/
theorem ix2_same' {a b : ℕ} {u v : (⟨2, ![a, b]⟩ : Shape).Idx} (h0 : (u 0).val = (v 0).val)
    (h1 : (u 1).val = (v 1).val) : u = v := by
  funext k
  revert k
  show ∀ k : Fin 2, _
  intro k
  match k with
  | 0 => exact Fin.ext h0
  | 1 => exact Fin.ext h1

/-- Row 0 of the result, read as the write-back addresses it. -/
theorem result_row0 (f : S2x128x512.Idx → EReal) (r : Fin 128) (n : Fin 512) :
    ((sl0 oH).view.read (Elt Ideal) f : S1x128x512.Idx → EReal) (ix3 0 r n) = f (ix3 0 r n) := by
  refine congrArg f (ix3_same ?_ ?_ ?_)
  · show 0 + 1 * 0 = 0; rfl
  · show 0 + 1 * r.val = r.val; omega
  · show 0 + 1 * n.val = n.val; omega

/-- Row 1 of the result. -/
theorem result_row1 (f : S2x128x512.Idx → EReal) (r : Fin 128) (n : Fin 512) :
    ((sl1 oH).view.read (Elt Ideal) f : S1x128x512.Idx → EReal) (ix3 0 r n) = f (ix3 1 r n) := by
  refine congrArg f (ix3_same ?_ ?_ ?_)
  · show 1 + 1 * 0 = 1; rfl
  · show 0 + 1 * r.val = r.val; omega
  · show 0 + 1 * n.val = n.val; omega

variable (m : (ℓ : Loc nD τ sig) → Buf (Elt Ideal) ℓ)

theorem x0_apply (c : Dev nD) (r : Fin 128) (e : Fin 512) :
    (x0V m c : S1x128x512.Idx → EReal) (ix3 0 r e) = xV m c (ix3 0 r e) := by
  refine congrArg (xV m c) (ix3_same ?_ ?_ ?_)
  · show 0 + 1 * 0 = 0; rfl
  · show 0 + 1 * r.val = r.val; omega
  · show 0 + 1 * e.val = e.val; omega

theorem x1_apply (c : Dev nD) (r : Fin 128) (e : Fin 512) :
    (x1V m c : S1x128x512.Idx → EReal) (ix3 0 r e) = xV m c (ix3 1 r e) := by
  refine congrArg (xV m c) (ix3_same ?_ ?_ ?_)
  · show 1 + 1 * 0 = 1; rfl
  · show 0 + 1 * r.val = r.val; omega
  · show 0 + 1 * e.val = e.val; omega

/-- The key columns that device `c` fetches. -/
theorem wk_apply (c : Dev nD) (e : Fin 512) (t : Fin 128) :
    (wkV m c : S512x128.Idx → EReal) (ix2 e t)
      = (m ((c : Thread nD τ).loc main_arg2) : S512x512.Idx → EReal)
          (ix2 e ⟨128 * c.val + t.val, by have : c.val < 4 := c.isLt; omega⟩) := by
  refine congrArg (m ((c : Thread nD τ).loc main_arg2) : S512x512.Idx → EReal) (ix2_same' ?_ ?_)
  · show (k0_off1 c) 0 + 1 * e.val = e.val
    rw [k0_off1_eq]
    show 0 + 1 * e.val = e.val; omega
  · show (k0_off1 c) 1 + 1 * t.val = 128 * c.val + t.val
    rw [k0_off1_eq]
    show 128 * c.val + 1 * t.val = _; omega

/-- The value columns that device `c` fetches. -/
theorem wv_apply (c : Dev nD) (e : Fin 512) (t : Fin 128) :
    (wvV m c : S512x128.Idx → EReal) (ix2 e t)
      = (m ((c : Thread nD τ).loc main_arg3) : S512x512.Idx → EReal)
          (ix2 e ⟨128 * c.val + t.val, by have : c.val < 4 := c.isLt; omega⟩) := by
  refine congrArg (m ((c : Thread nD τ).loc main_arg3) : S512x512.Idx → EReal) (ix2_same' ?_ ?_)
  · show (k0_off1 c) 0 + 1 * e.val = e.val
    rw [k0_off1_eq]
    show 0 + 1 * e.val = e.val; omega
  · show (k0_off1 c) 1 + 1 * t.val = 128 * c.val + t.val
    rw [k0_off1_eq]
    show 128 * c.val + 1 * t.val = _; omega

/-! ## The equation -/

section Whole

variable (X : (⟨3, ![2, 128, 512]⟩ : Shape).Idx → EReal) (Wq : (⟨2, ![512, 2048]⟩ : Shape).Idx → EReal)
  (Wk Wv : (⟨2, ![512, 512]⟩ : Shape).Idx → EReal) (Wo : (⟨2, ![2048, 512]⟩ : Shape).Idx → EReal)

/-- The devices' arguments are the whole arrays, or their blocks. -/
def Spread : Prop := ∀ c : Dev nD,
  m ((c.tc : Thread nD τ).loc main_arg0) = X
  ∧ m ((c.tc : Thread nD τ).loc main_arg1) = Layout.block ⟨2, ![512, 512]⟩ ⟨2, ![512, 2048]⟩ 1 4 c Wq
  ∧ m ((c.tc : Thread nD τ).loc main_arg2) = Wk
  ∧ m ((c.tc : Thread nD τ).loc main_arg3) = Wv
  ∧ m ((c.tc : Thread nD τ).loc main_arg4) = Layout.block ⟨2, ![512, 512]⟩ ⟨2, ![2048, 512]⟩ 0 4 c Wo

variable {m X Wq Wk Wv Wo} (hm : Spread m X Wq Wk Wv Wo)
include hm

theorem wq_apply (c : Dev nD) (e h : Fin 512) :
    (wqV m c : S512x512.Idx → EReal) (ix2 e h)
      = Wq (ix2 e ⟨512 * c.val + h.val, by have : c.val < 4 := c.isLt; omega⟩) := by
  refine (congrFun (hm c).2.1 (ix2 e h)).trans (congrArg Wq (ix2_same' ?_ ?_))
  · show e.val = e.val; rfl
  · show c.val * 512 + h.val = 512 * c.val + h.val; omega

theorem wo_apply (c : Dev nD) (h n : Fin 512) :
    (woV m c : S512x512.Idx → EReal) (ix2 h n)
      = Wo (ix2 ⟨512 * c.val + h.val, by have : c.val < 4 := c.isLt; omega⟩ n) := by
  refine (congrFun (hm c).2.2.2.2 (ix2 h n)).trans (congrArg Wo (ix2_same' ?_ ?_))
  · show c.val * 512 + h.val = 512 * c.val + h.val; omega
  · show n.val = n.val; rfl

theorem acc0_apply (c : Dev nD) (r : Fin 128) (n : Fin 512) :
    (acc0 m c (ix2 r n) : EReal)
      = ∑ h : Fin 512, term X Wq Wk Wv Wo 0 r n ⟨512 * c.val + h.val, by have : c.val < 4 := c.isLt; omega⟩ := by
  rw [acc0_eq]
  exact part_apply X Wq Wk Wv Wo c 0 (x0V m c) (wqV m c) (wkV m c) (wvV m c) (woV m c)
    (fun r e => (x0_apply m c r e).trans (congrFun (hm c).1 _)) (wq_apply hm c)
    (fun e t => (wk_apply m c e t).trans (congrFun (hm c).2.2.1 _))
    (fun e t => (wv_apply m c e t).trans (congrFun (hm c).2.2.2.1 _)) (wo_apply hm c) r n

theorem acc1_apply (c : Dev nD) (r : Fin 128) (n : Fin 512) :
    (acc1 m c (ix2 r n) : EReal)
      = ∑ h : Fin 512, term X Wq Wk Wv Wo 1 r n ⟨512 * c.val + h.val, by have : c.val < 4 := c.isLt; omega⟩ := by
  rw [acc1_eq]
  exact part_apply X Wq Wk Wv Wo c 1 (x1V m c) (wqV m c) (wkV m c) (wvV m c) (woV m c)
    (fun r e => (x1_apply m c r e).trans (congrFun (hm c).1 _)) (wq_apply hm c)
    (fun e t => (wk_apply m c e t).trans (congrFun (hm c).2.2.1 _))
    (fun e t => (wv_apply m c e t).trans (congrFun (hm c).2.2.2.1 _)) (wo_apply hm c) r n

variable (hX : ∀ b r e, IsReal (X (ix3 b r e))) (hQ : ∀ i j, IsReal (Wq (ix2 i j))) (hK : ∀ i j, IsReal (Wk (ix2 i j)))
include hX hQ hK

theorem res0_answer (c : Dev nD) (r : Fin 128) (n : Fin 512) :
    (res0 m c (ix3 0 r n) : EReal) = answer X Wq Wk Wv Wo 0 r n := by
  rw [res0_apply, sum_around (fun d => acc0 m d (ix2 r n)) c, answer_eq X Wq Wk Wv Wo hX hQ hK]
  exact Finset.sum_congr rfl fun d _ => acc0_apply hm d r n

theorem res1_answer (c : Dev nD) (r : Fin 128) (n : Fin 512) :
    (res1 m c (ix3 0 r n) : EReal) = answer X Wq Wk Wv Wo 1 r n := by
  rw [res1_apply, rgt_rgt, sum_around (fun d => acc1 m d (ix2 r n)) c, answer_eq X Wq Wk Wv Wo hX hQ hK]
  exact Finset.sum_congr rfl fun d _ => acc1_apply hm d r n

/-- What the kernel leaves in a device's result is the answer, at every place. -/
theorem final_answer (c : Dev nD) (μ : (ℓ : Loc nD τ sig) → Buf (Elt Ideal) ℓ) (h : MemQ m c μ) (b : Fin 2) (r : Fin 128)
    (n : Fin 512) :
    (μ ((c : Thread nD τ).loc main_v1) : S2x128x512.Idx → EReal) (ix3 b r n) = answer X Wq Wk Wv Wo b r n := by
  match b with
  | 0 => exact (result_row0 _ r n).symm.trans ((congrFun h.2.2.2.2.2.1 _).trans (res0_answer hm hX hQ hK c r n))
  | 1 => exact (result_row1 _ r n).symm.trans ((congrFun h.2.2.2.2.2.2 _).trans (res1_answer hm hX hQ hK c r n))

end Whole

end Cert.KernelIdeal.Hand

namespace Cert.Hand

open Idealize.ShloMosaic Idealize.ShloMosaic.TcCoe Idealize.SL.Sem

/-- Every entry of a matrix cut by columns lies in one of the blocks. -/
theorem real_of_blocks (Wq : (⟨2, ![512, 2048]⟩ : Shape).Idx → EReal)
    (h : ∀ (c : Fin 4) (i j : Fin 512), IsReal ((Layout.block ⟨2, ![512, 512]⟩ ⟨2, ![512, 2048]⟩ 1 4 c Wq) (ix2 i j)))
    (i : Fin 512) (j : Fin 2048) : IsReal (Wq (ix2 i j)) := by
  have e := h ⟨j.val / 512, by omega⟩ i ⟨j.val % 512, by omega⟩
  rwa [Layout.block_apply, show Layout.Tiles.idx _ _ _ = ix2 i j from
    Cert.KernelIdeal.Hand.ix2_same' rfl (by show j.val / 512 * 512 + j.val % 512 = j.val; omega)] at e

/-- Kernel and reference compute one function, under the precondition. -/
theorem algebraic :
    @Cert.algebraic_KernelIdeal_ReferenceIdeal_pre_finite_KernelIdeal Cert.KernelIdeal.Gen.facts
      Cert.ReferenceIdeal.Gen.facts facts_kernel := by
  intro m g m' g' hpre hm
  have hm' : Cert.KernelIdeal.Hand.Spread m _ _ _ _ _ := hm
  have hfin := fun c => @finite_of_pre facts_kernel _ _ _ _ _ (hpre c)
  have hX : ∀ b r e, IsReal ((m' (((0 : Dev Cert.ReferenceIdeal.nD).tc :
      Thread Cert.ReferenceIdeal.nD Cert.ReferenceIdeal.τ).loc Cert.ReferenceIdeal.main_arg0) :
      (⟨3, ![2, 128, 512]⟩ : Shape).Idx → EReal) (ix3 b r e)) := fun b r e => by
    have := (hfin 0).1 b r e
    rw [(hm 0).1] at this
    exact this
  have hQ : ∀ i j, IsReal ((m' (((0 : Dev Cert.ReferenceIdeal.nD).tc :
      Thread Cert.ReferenceIdeal.nD Cert.ReferenceIdeal.τ).loc Cert.ReferenceIdeal.main_arg1) :
      (⟨2, ![512, 2048]⟩ : Shape).Idx → EReal) (ix2 i j)) :=
    real_of_blocks _ fun c i j => by
      have := (hfin c).2.1 i j
      rw [(hm c).2.1] at this
      exact this
  have hK : ∀ i j, IsReal ((m' (((0 : Dev Cert.ReferenceIdeal.nD).tc :
      Thread Cert.ReferenceIdeal.nD Cert.ReferenceIdeal.τ).loc Cert.ReferenceIdeal.main_arg2) :
      (⟨2, ![512, 512]⟩ : Shape).Idx → EReal) (ix2 i j)) := fun i j => by
    have := (hfin 0).2.2 i j
    rw [(hm 0).2.2.1] at this
    exact this
  refine ⟨Cert.ReferenceIdeal.Value.res_main_v38 m' 0, ?_, ?_⟩
  · refine (θ_run (Cert.KernelIdeal.defs (F := Ideal)) _ _).mono (fun r h c => ?_)
      (Cert.KernelIdeal.Hand.run_main (F := Ideal) m g)
    refine ⟨?_, (h.1 c).1, (h.1 c).2.1, (h.1 c).2.2.1, (h.1 c).2.2.2.1, (h.1 c).2.2.2.2.1⟩
    funext i
    obtain ⟨b, p, n, rfl⟩ : ∃ (b : Fin 2) (p : Fin 128) (n : Fin 512), i = ix3 b p n :=
      ⟨i 0, i 1, i 2, eq_ix3 i⟩
    exact (Cert.KernelIdeal.Hand.final_answer hm' hX hQ hK c r.2.mem (h.1 c) b p n).trans
      (Cert.ReferenceIdeal.Hand.res_apply m' 0 b p n).symm
  · exact (θ_run (Cert.ReferenceIdeal.defs (F := Ideal)) _ _).mono (fun r h => h 0)
      (Cert.ReferenceIdeal.Value.run (F := Ideal) m' g')

end Cert.Hand

end
-- ==== Proof.lean ====
/- The certificate: one theorem joins the claims that the modules beside it prove. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
   Cert.Hand.facts_kernel, Cert.Hand.facts_reference,
   Cert.Hand.frame_kernel, Cert.Hand.frame_ideal, fun m ρ _ => Cert.Hand.frame_ideal m ρ trivial,
   Cert.Hand.frame_reference, fun m ρ _ => Cert.Hand.frame_reference m ρ trivial,
   trivial, Cert.Hand.algebraic⟩

end Cert.Proof

end
